-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied [hPre_untied : Cert.Pre_untied.Facts] (m : (ℓ : Loc Cert.KernelIdeal.nD Cert.KernelIdeal.τ Cert.KernelIdeal.sig) → Buf (Elt Ideal) ℓ) : Prop :=
  ∀ c : Dev Cert.KernelIdeal.nD,
    (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_untied [hKernelIdeal : Cert.KernelIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_untied [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_untied [hKernelIdeal : Cert.KernelIdeal.Facts] [hReferenceIdeal : Cert.ReferenceIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_untied : Cert.Pre_untied.Facts),
    quiescent_Kernel (hKernel := hKernel)
    ∧ quiescent_KernelIdeal (hKernelIdeal := hKernelIdeal)
    ∧ quiescent_KernelIdeal_pre_untied (hKernelIdeal := hKernelIdeal) (hPre_untied := hPre_untied)
    ∧ quiescent_ReferenceIdeal (hReferenceIdeal := hReferenceIdeal)
    ∧ quiescent_ReferenceIdeal_pre_untied (hReferenceIdeal := hReferenceIdeal) (hPre_untied := hPre_untied)
    ∧ preserves_Kernel_KernelIdeal
    ∧ algebraic_KernelIdeal_ReferenceIdeal_pre_untied (hKernelIdeal := hKernelIdeal) (hReferenceIdeal := hReferenceIdeal) (hPre_untied := hPre_untied)
-- ==== Pre_untied.lean ====
abbrev S1x8192x16 : Shape := ⟨3, ![1, 8192, 16]⟩
abbrev S1x8192x8192 : Shape := ⟨3, ![1, 8192, 8192]⟩
abbrev S_ : Shape := ⟨0, ![]⟩
abbrev S1x16 : Shape := ⟨2, ![1, 16]⟩
abbrev S1x1x16 : Shape := ⟨3, ![1, 1, 16]⟩
abbrev S1x8192 : Shape := ⟨2, ![1, 8192]⟩
abbrev S1x8192x1 : Shape := ⟨3, ![1, 8192, 1]⟩
abbrev S1x1x8192 : Shape := ⟨3, ![1, 1, 8192]⟩
abbrev S1x8192x11 : Shape := ⟨3, ![1, 8192, 11]⟩
abbrev S1x8192x10 : Shape := ⟨3, ![1, 8192, 10]⟩

class Facts : Prop where
  reducesTo_S1x8192x16_S1x16_d1 : S1x8192x16.ReducesTo [1] S1x16
  h_S_ : 0 < S_.numel
  bcast_S1x16_S1x1x16_0_2 : S1x16.BroadcastsInDim S1x1x16 (![0, 2] : Fin 2 → Fin S1x1x16.rank)
  bcast_S_S1x1x16 : S_.BroadcastsInDim S1x1x16 (![] : Fin 0 → Fin S1x1x16.rank)
  bcast_S1x1x16_S1x8192x16_0_1_2 : S1x1x16.BroadcastsInDim S1x8192x16 (![0, 1, 2] : Fin 3 → Fin S1x8192x16.rank)
  reducesTo_S1x8192x16_S_d0_1_2 : S1x8192x16.ReducesTo [0, 1, 2] S_
  bcast_S_S1x8192x16 : S_.BroadcastsInDim S1x8192x16 (![] : Fin 0 → Fin S1x8192x16.rank)
  reducesTo_S1x8192x16_S1x8192_d2 : S1x8192x16.ReducesTo [2] S1x8192
  bcast_S1x8192_S1x8192x1_0_1 : S1x8192.BroadcastsInDim S1x8192x1 (![0, 1] : Fin 2 → Fin S1x8192x1.rank)
  bcast_S1x8192_S1x1x8192_0_2 : S1x8192.BroadcastsInDim S1x1x8192 (![0, 2] : Fin 2 → Fin S1x1x8192.rank)
  bcast_S1x8192x1_S1x8192x8192_0_1_2 : S1x8192x1.BroadcastsInDim S1x8192x8192 (![0, 1, 2] : Fin 3 → Fin S1x8192x8192.rank)
  bcast_S1x1x8192_S1x8192x8192_0_1_2 : S1x1x8192.BroadcastsInDim S1x8192x8192 (![0, 1, 2] : Fin 3 → Fin S1x8192x8192.rank)
  bcast_S_S1x8192x8192 : S_.BroadcastsInDim S1x8192x8192 (![] : Fin 0 → Fin S1x8192x8192.rank)
  sliceFits_S1x8192x8192_S1x8192x11 : S1x8192x8192.Slices (fun _ => 0) S1x8192x11
  slices_S1x8192x11_S1x8192x10_0_0_0 : S1x8192x11.Slices ![0, 0, 0] S1x8192x10
  slices_S1x8192x11_S1x8192x10_0_0_1 : S1x8192x11.Slices ![0, 0, 1] S1x8192x10
  dot_S1x8192x16_S1x8192x16_S1x8192x8192_2_2_1_1_0_0_wf : DotDims.WF S1x8192x16 S1x8192x16 S1x8192x8192 [2] [2] [1] [1] [0] [0]

variable [Facts]

def dot_S1x8192x16_S1x8192x16_S1x8192x8192_2_2_1_1_0_0 : DotDims S1x8192x16 S1x8192x16 S1x8192x8192 where
  lhsContracting := [2]
  rhsContracting := [2]
  lhsNonContracting := [1]
  rhsNonContracting := [1]
  lhsBatch := [0]
  rhsBatch := [0]
  wf := dot_S1x8192x16_S1x8192x16_S1x8192x8192_2_2_1_1_0_0_wf
def fn_part2 {F : FTy → Type} [FloatOps F] (main_arg2 : FVec F S_ .f32) (main_values : FVec F S1x8192x11 .f32) : IVec S_ 1 × IVec S1x8192x10 1 :=
  let main_cst_8 : FVec F S_ .f32 := constant S_ .f32 0x00000000#32
  let main_v37 : IVec S_ 1 := cmpf .ogt main_arg2 main_cst_8
  let main_v38 : FVec F S1x8192x10 .f32 := (extractStridedSlice S1x8192x10 ![0, 0, 0] · slices_S1x8192x11_S1x8192x10_0_0_0) main_values
  let main_v39 : FVec F S1x8192x10 .f32 := (extractStridedSlice S1x8192x10 ![0, 0, 1] · slices_S1x8192x11_S1x8192x10_0_0_1) main_values
  let main_v40 : IVec S1x8192x10 1 := cmpf .ogt main_v38 main_v39
  (main_v37, main_v40)

def fn_part1 {F : FTy → Type} [FloatOps F] (main_arg2 : FVec F S_ .f32) (main_arg3 : FVec F S_ .f32) (main_v12 : FVec F S1x8192x16 .f32) (main_v17 : FVec F S1x8192x8192 .f32) (main_v18 : FVec F S1x8192x8192 .f32) : IVec S_ 1 × IVec S1x8192x10 1 :=
  let main_v19 : FVec F S1x8192x8192 .f32 := addf main_v17 main_v18
  let main_v20 : FVec F S1x8192x8192 .f32 := (fun l r => Host.dotGeneral dot_S1x8192x16_S1x8192x16_S1x8192x8192_2_2_1_1_0_0 none l r) main_v12 main_v12
  let main_cst_4 : FVec F S_ .f32 := constant S_ .f32 0x40000000#32
  let main_v21 : FVec F S1x8192x8192 .f32 := broadcastInDim S1x8192x8192 ![] bcast_S_S1x8192x8192 main_cst_4
  let main_v22 : FVec F S1x8192x8192 .f32 := mulf main_v21 main_v20
  let main_v23 : FVec F S1x8192x8192 .f32 := subf main_v19 main_v22
  let main_cst_5 : FVec F S_ .f32 := constant S_ .f32 0x00000000#32
  let main_v24 : FVec F S1x8192x8192 .f32 := broadcastInDim S1x8192x8192 ![] bcast_S_S1x8192x8192 main_cst_5
  let main_v25 : FVec F S1x8192x8192 .f32 := maximumf main_v23 main_v24
  let main_v26 : FVec F S_ .f32 := Host.absf main_arg3
  let main_v27 : FVec F S1x8192x8192 .f32 := broadcastInDim S1x8192x8192 ![] bcast_S_S1x8192x8192 main_v26
  let main_v28 : FVec F S1x8192x8192 .f32 := subf main_v27 main_v25
  let main_v29 : FVec F S1x8192x8192 .f32 := broadcastInDim S1x8192x8192 ![] bcast_S_S1x8192x8192 main_arg2
  let main_v30 : FVec F S1x8192x8192 .f32 := mulf main_v29 main_v28
  let main_v31 : FVec F S1x8192x8192 .f32 := Host.negf main_v30
  let main_v32 : FVec F S1x8192x8192 .f32 := Host.exp main_v31
  let main_cst_6 : FVec F S_ .f32 := constant S_ .f32 0x3F800000#32
  let main_v33 : FVec F S1x8192x8192 .f32 := broadcastInDim S1x8192x8192 ![] bcast_S_S1x8192x8192 main_cst_6
  let main_v34 : FVec F S1x8192x8192 .f32 := addf main_v33 main_v32
  let main_cst_7 : FVec F S_ .f32 := constant S_ .f32 0x3F800000#32
  let main_v35 : FVec F S1x8192x8192 .f32 := broadcastInDim S1x8192x8192 ![] bcast_S_S1x8192x8192 main_cst_7
  let main_v36 : FVec F S1x8192x8192 .f32 := Host.divf main_v35 main_v34
  let main_values : FVec F S1x8192x11 .f32 := (fun x => (Host.topK S1x8192x11 2 (FloatOps.cmpfTotal .gt) x sliceFits_S1x8192x8192_S1x8192x11).1) main_v36
  let main_indices : IVec S1x8192x11 32 := (fun x => (Host.topK S1x8192x11 2 (FloatOps.cmpfTotal .gt) x sliceFits_S1x8192x8192_S1x8192x11).2) main_v36
  fn_part2 (F := F) main_arg2 main_values

def fn {F : FTy → Type} [FloatOps F] (main_arg0 : FVec F S1x8192x16 .f32) (main_arg1 : FVec F S1x8192x8192 .f32) (main_arg2 : FVec F S_ .f32) (main_arg3 : FVec F S_ .f32) : IVec S_ 1 × IVec S1x8192x10 1 :=
  let main_cst : FVec F S_ .f32 := constant S_ .f32 0x00000000#32
  let main_v0 : FVec F S1x16 .f32 := (fun x v => Host.reduceAdd x v reducesTo_S1x8192x16_S1x16_d1 h_S_) main_arg0 main_cst
  let main_v1 : FVec F S1x1x16 .f32 := broadcastInDim S1x1x16 ![0, 2] bcast_S1x16_S1x1x16_0_2 main_v0
  let main_cst_0 : FVec F S_ .f32 := constant S_ .f32 0x46000000#32
  let main_v2 : FVec F S1x1x16 .f32 := broadcastInDim S1x1x16 ![] bcast_S_S1x1x16 main_cst_0
  let main_v3 : FVec F S1x1x16 .f32 := Host.divf main_v1 main_v2
  let main_v4 : FVec F S1x8192x16 .f32 := broadcastInDim S1x8192x16 ![0, 1, 2] bcast_S1x1x16_S1x8192x16_0_1_2 main_v3
  let main_v5 : FVec F S1x8192x16 .f32 := subf main_arg0 main_v4
  let main_v6 : FVec F S1x8192x16 .f32 := Host.absf main_v5
  let main_cst_1 : FVec F S_ .f32 := constant S_ .f32 0xFF800000#32
  let main_v7 : FVec F S_ .f32 := (fun x v => Host.reduce FloatOps.maximumf x v reducesTo_S1x8192x16_S_d0_1_2 h_S_) main_v6 main_cst_1
  let main_cst_2 : FVec F S_ .f32 := constant S_ .f32 0x3F666666#32
  let main_v8 : FVec F S_ .f32 := Host.divf main_cst_2 main_v7
  let main_v9 : FVec F S1x8192x16 .f32 := broadcastInDim S1x8192x16 ![0, 1, 2] bcast_S1x1x16_S1x8192x16_0_1_2 main_v3
  let main_v10 : FVec F S1x8192x16 .f32 := subf main_arg0 main_v9
  let main_v11 : FVec F S1x8192x16 .f32 := broadcastInDim S1x8192x16 ![] bcast_S_S1x8192x16 main_v8
  let main_v12 : FVec F S1x8192x16 .f32 := mulf main_v10 main_v11
  let main_v13 : FVec F S1x8192x16 .f32 := mulf main_v12 main_v12
  let main_cst_3 : FVec F S_ .f32 := constant S_ .f32 0x00000000#32
  let main_v14 : FVec F S1x8192 .f32 := (fun x v => Host.reduceAdd x v reducesTo_S1x8192x16_S1x8192_d2 h_S_) main_v13 main_cst_3
  let main_v15 : FVec F S1x8192x1 .f32 := broadcastInDim S1x8192x1 ![0, 1] bcast_S1x8192_S1x8192x1_0_1 main_v14
  let main_v16 : FVec F S1x1x8192 .f32 := broadcastInDim S1x1x8192 ![0, 2] bcast_S1x8192_S1x1x8192_0_2 main_v14
  let main_v17 : FVec F S1x8192x8192 .f32 := broadcastInDim S1x8192x8192 ![0, 1, 2] bcast_S1x8192x1_S1x8192x8192_0_1_2 main_v15
  let main_v18 : FVec F S1x8192x8192 .f32 := broadcastInDim S1x8192x8192 ![0, 1, 2] bcast_S1x1x8192_S1x8192x8192_0_1_2 main_v16
  fn_part1 (F := F) main_arg2 main_arg3 main_v12 main_v17 main_v18
-- ==== Kernel.lean ====
abbrev S1x8192x16 : Shape := ⟨3, ![1, 8192, 16]⟩
abbrev S1x8192x8192 : Shape := ⟨3, ![1, 8192, 8192]⟩
abbrev S_ : Shape := ⟨0, ![]⟩
abbrev S8192x16 : Shape := ⟨2, ![8192, 16]⟩
abbrev S16x8192 : Shape := ⟨2, ![16, 8192]⟩
abbrev S1x8192 : Shape := ⟨2, ![1, 8192]⟩
abbrev S16 : Shape := ⟨1, ![16]⟩
abbrev S1x16 : Shape := ⟨2, ![1, 16]⟩
abbrev S1 : Shape := ⟨1, ![1]⟩
abbrev S1x1x1 : Shape := ⟨3, ![1, 1, 1]⟩
abbrev S8192 : Shape := ⟨1, ![8192]⟩
abbrev S2 : Shape := ⟨1, ![2]⟩
abbrev S1x2 : Shape := ⟨2, ![1, 2]⟩
abbrev S8192x8192 : Shape := ⟨2, ![8192, 8192]⟩
abbrev S256x16 : Shape := ⟨2, ![256, 16]⟩
abbrev S256x8192 : Shape := ⟨2, ![256, 8192]⟩
abbrev S256 : Shape := ⟨1, ![256]⟩
abbrev S256x1 : Shape := ⟨2, ![256, 1]⟩
abbrev S256x128 : Shape := ⟨2, ![256, 128]⟩
abbrev S256x384 : Shape := ⟨2, ![256, 384]⟩
abbrev S1x256x1 : Shape := ⟨3, ![1, 256, 1]⟩
abbrev S1x1 : Shape := ⟨2, ![1, 1]⟩

abbrev nBuf : Space → Nat
  | .hbm => 17
  | .vmem => 10
  | .smem => 1
  | _ => 0

abbrev bufTy : (tb : Table) → Fin (tcTables nBuf tb) → BufTy
  | .hbm, ⟨0, _⟩ => ⟨S1x8192x16, .f32⟩
  | .hbm, ⟨1, _⟩ => ⟨S1x8192x8192, .f32⟩
  | .hbm, ⟨2, _⟩ => ⟨S_, .f32⟩
  | .hbm, ⟨3, _⟩ => ⟨S_, .f32⟩
  | .hbm, ⟨4, _⟩ => ⟨S8192x16, .f32⟩
  | .hbm, ⟨5, _⟩ => ⟨S8192x16, .f32⟩
  | .hbm, ⟨6, _⟩ => ⟨S16x8192, .f32⟩
  | .hbm, ⟨7, _⟩ => ⟨S1x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S2, .f32⟩
  | .hbm, ⟨14, _⟩ => ⟨S1x2, .f32⟩
  | .hbm, ⟨15, _⟩ => ⟨S8192x8192, .f32⟩
  | .hbm, ⟨16, _⟩ => ⟨S1x8192x8192, .f32⟩
  | .local _ .vmem, ⟨0, _⟩ => ⟨S8192x16, .f32⟩
  | .local _ .vmem, ⟨1, _⟩ => ⟨S8192x16, .f32⟩
  | .local _ .vmem, ⟨2, _⟩ => ⟨S16x8192, .f32⟩
  | .local _ .vmem, ⟨3, _⟩ => ⟨S1x8192, .f32⟩
  | .local _ .vmem, ⟨4, _⟩ => ⟨S256x16, .f32⟩
  | .local _ .vmem, ⟨5, _⟩ => ⟨S256x16, .f32⟩
  | .local _ .vmem, ⟨6, _⟩ => ⟨S16x8192, .f32⟩
  | .local _ .vmem, ⟨7, _⟩ => ⟨S1x8192, .f32⟩
  | .local _ .vmem, ⟨8, _⟩ => ⟨S256x8192, .f32⟩
  | .local _ .vmem, ⟨9, _⟩ => ⟨S256x8192, .f32⟩
  | .local _ .smem, ⟨0, _⟩ => ⟨S1x2, .f32⟩
  | _, _ => ⟨S1x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := .none

abbrev stage0_0 : Fin 1 → Memref sig .tc .vmem S8192x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1x8192x16 : Shape := ⟨3, ![1, 8192, 16]⟩
abbrev S1x8192x8192 : Shape := ⟨3, ![1, 8192, 8192]⟩
abbrev S_ : Shape := ⟨0, ![]⟩
abbrev S1x16 : Shape := ⟨2, ![1, 16]⟩
abbrev S1x1x16 : Shape := ⟨3, ![1, 1, 16]⟩
abbrev S1x8192 : Shape := ⟨2, ![1, 8192]⟩
abbrev S1x8192x1 : Shape := ⟨3, ![1, 8192, 1]⟩
abbrev S1x1x8192 : Shape := ⟨3, ![1, 1, 8192]⟩
abbrev S1x8192x10 : Shape := ⟨3, ![1, 8192, 10]⟩
abbrev S1 : Shape := ⟨1, ![1]⟩
abbrev S1x1x1 : Shape := ⟨3, ![1, 1, 1]⟩
abbrev S8192 : Shape := ⟨1, ![8192]⟩
abbrev S1x8192x10x1 : Shape := ⟨4, ![1, 8192, 10, 1]⟩
abbrev S1x8192x10x3 : Shape := ⟨4, ![1, 8192, 10, 3]⟩

abbrev nBuf : Space → Nat
  | .hbm => 89
  | .vmem => 0
  | .smem => 0
  | _ => 0

abbrev bufTy : (tb : Table) → Fin (tcTables nBuf tb) → BufTy
  | .hbm, ⟨0, _⟩ => ⟨S1x8192x16, .f32⟩
  | .hbm, ⟨1, _⟩ => ⟨S1x8192x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1x16, .f32⟩
  | .hbm, ⟨6, _⟩ => ⟨S1x1x16, .f32⟩
  | .hbm, ⟨7, _⟩ => ⟨S_, .f32⟩
  | .hbm, ⟨8, _⟩ => ⟨S1x1x16, .f32⟩
  | .hbm, ⟨9, _⟩ => ⟨S1x1x16, .f32⟩
  | .hbm, ⟨10, _⟩ => ⟨S1x8192x16, .f32⟩
  | .hbm, ⟨11, _⟩ => ⟨S1x8192x16, .f32⟩
  | .hbm, ⟨12, _⟩ => ⟨S1x8192x16, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x8192x16, .f32⟩
  | .hbm, ⟨18, _⟩ => ⟨S1x8192x16, .f32⟩
  | .hbm, ⟨19, _⟩ => ⟨S1x8192x16, .f32⟩
  | .hbm, ⟨20, _⟩ => ⟨S1x8192x16, .f32⟩
  | .hbm, ⟨21, _⟩ => ⟨S1x8192x16, .f32⟩
  | .hbm, ⟨22, _⟩ => ⟨S_, .f32⟩
  | .hbm, ⟨23, _⟩ => ⟨S1x8192, .f32⟩
  | .hbm, ⟨24, _⟩ => ⟨S1x8192x1, .f32⟩
  | .hbm, ⟨25, _⟩ => ⟨S1x1x8192, .f32⟩
  | .hbm, ⟨26, _⟩ => ⟨S1x8192x8192, .f32⟩
  | .hbm, ⟨27, _⟩ => ⟨S1x8192x8192, .f32⟩
  | .hbm, ⟨28, _⟩ => ⟨S1x8192x8192, .f32⟩
  | .hbm, ⟨29, _⟩ => ⟨S1x8192x8192, .f32⟩
  | .hbm, ⟨30, _⟩ => ⟨S_, .f32⟩
  | .hbm, ⟨31, _⟩ => ⟨S1x8192x8192, .f32⟩
  | .hbm, ⟨32, _⟩ => ⟨S1x8192x8192, .f32⟩
  | .hbm, ⟨33, _⟩ => ⟨S1x8192x8192, .f32⟩
  | .hbm, ⟨34, _⟩ => ⟨S_, .f32⟩
  | .hbm, ⟨35, _⟩ => ⟨S1x8192x8192, .f32⟩
  | .hbm, ⟨36, _⟩ => ⟨S1x8192x8192, .f32⟩
  | .hbm, ⟨37, _⟩ => ⟨S_, .f32⟩
  | .hbm, ⟨38, _⟩ => ⟨S1x8192x8192, .f32⟩
  | .hbm, ⟨39, _⟩ => ⟨S1x8192x8192, .f32⟩
  | .hbm, ⟨40, _⟩ => ⟨S1x8192x8192, .f32⟩
  | .hbm, ⟨41, _⟩ => ⟨S1x8192x8192, .f32⟩
  | .hbm, ⟨42, _⟩ => ⟨S1x8192x8192, .f32⟩
  | .hbm, ⟨43, _⟩ => ⟨S1x8192x8192, .f32⟩
  | .hbm, ⟨44, _⟩ => ⟨S_, .f32⟩
  | .hbm, ⟨45, _⟩ => ⟨S1x8192x8192, .f32⟩
  | .hbm, ⟨46, _⟩ => ⟨S1x8192x8192, .f32⟩
  | .hbm, ⟨47, _⟩ => ⟨S_, .f32⟩
  | .hbm, ⟨48, _⟩ => ⟨S1x8192x8192, .f32⟩
  | .hbm, ⟨49, _⟩ => ⟨S1x8192x8192, .f32⟩
  | .hbm, ⟨50, _⟩ => ⟨S1x8192x10, .f32⟩
  | .hbm, ⟨51, _⟩ => ⟨S1x8192x10, .i32⟩
  | .hbm, ⟨52, _⟩ => ⟨S_, .f32⟩
  | .hbm, ⟨53, _⟩ => ⟨S1x8192x8192, .f32⟩
  | .hbm, ⟨54, _⟩ => ⟨S1, .i32⟩
  | .hbm, ⟨55, _⟩ => ⟨S1x1x1, .i32⟩
  | .hbm, ⟨56, _⟩ => ⟨S8192, .i32⟩
  | .hbm, ⟨57, _⟩ => ⟨S1x8192x1, .i32⟩
  | .hbm, ⟨58, _⟩ => ⟨S_, .i32⟩
  | .hbm, ⟨59, _⟩ => ⟨S1x1x1, .i32⟩
  | .hbm, ⟨60, _⟩ => ⟨S1x1x1, .i1⟩
  | .hbm, ⟨61, _⟩ => ⟨S_, .i32⟩
  | .hbm, ⟨62, _⟩ => ⟨S1x1x1, .i32⟩
  | .hbm, ⟨63, _⟩ => ⟨S1x1x1, .i32⟩
  | .hbm, ⟨64, _⟩ => ⟨S1x1x1, .i32⟩
  | .hbm, ⟨65, _⟩ => ⟨S_, .i32⟩
  | .hbm, ⟨66, _⟩ => ⟨S1x8192x1, .i32⟩
  | .hbm, ⟨67, _⟩ => ⟨S1x8192x1, .i1⟩
  | .hbm, ⟨68, _⟩ => ⟨S_, .i32⟩
  | .hbm, ⟨69, _⟩ => ⟨S1x8192x1, .i32⟩
  | .hbm, ⟨70, _⟩ => ⟨S1x8192x1, .i32⟩
  | .hbm, ⟨71, _⟩ => ⟨S1x8192x1, .i32⟩
  | .hbm, ⟨72, _⟩ => ⟨S_, .i32⟩
  | .hbm, ⟨73, _⟩ => ⟨S1x8192x10, .i32⟩
  | .hbm, ⟨74, _⟩ => ⟨S1x8192x10, .i1⟩
  | .hbm, ⟨75, _⟩ => ⟨S_, .i32⟩
  | .hbm, ⟨76, _⟩ => ⟨S1x8192x10, .i32⟩
  | .hbm, ⟨77, _⟩ => ⟨S1x8192x10, .i32⟩
  | .hbm, ⟨78, _⟩ => ⟨S1x8192x10, .i32⟩
  | .hbm, ⟨79, _⟩ => ⟨S1x8192x10, .i32⟩
  | .hbm, ⟨80, _⟩ => ⟨S1x8192x10, .i32⟩
  | .hbm, ⟨81, _⟩ => ⟨S1x8192x10x1, .i32⟩
  | .hbm, ⟨82, _⟩ => ⟨S1x8192x10x1, .i32⟩
  | .hbm, ⟨83, _⟩ => ⟨S1x8192x10x1, .i32⟩
  | .hbm, ⟨84, _⟩ => ⟨S1x8192x10x3, .i32⟩
  | .hbm, ⟨85, _⟩ => ⟨S_, .f32⟩
  | .hbm, ⟨86, _⟩ => ⟨S1x8192x10, .f32⟩
  | .hbm, ⟨87, _⟩ => ⟨S1x8192x8192, .f32⟩
  | .hbm, ⟨88, _⟩ => ⟨S1x8192x8192, .f32⟩
  | _, _ => ⟨S1x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_values : Ref sig .tc := ⟨.hbm, 50, rfl⟩
abbrev main_indices : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_12 : Ref sig .tc := ⟨.hbm, 72, rfl⟩
abbrev main_v52 : Ref sig .tc := ⟨.hbm, 73, rfl⟩
abbrev main_v53 : Ref sig .tc := ⟨.hbm, 74, rfl⟩
abbrev main_c_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Proof.Facts.lean ====
module

public import proofs.«01_k».proof.Pre_untied
public import proofs.«01_k».proof.Proof.Gen.ReferenceIdeal
public import proofs.«01_k».proof.Proof.Gen.ReferenceIdeal.Run
public import Idealize.ShloMosaic.Lib.Quiescent
public import Idealize.ShloMosaic.Adequacy

/-!
The side conditions of the precondition's program, and the frame of the reference.
-/

@[expose] public section

noncomputable section

namespace Cert.Pre

/-- The shape conditions the precondition's operations take hold: each by evaluation. -/
instance facts : Cert.Pre_untied.Facts where
  reducesTo_S1x8192x16_S1x16_d1 := by decide
  h_S_ := by decide
  bcast_S1x16_S1x1x16_0_2 := by decide
  bcast_S_S1x1x16 := by decide
  bcast_S1x1x16_S1x8192x16_0_1_2 := by decide
  reducesTo_S1x8192x16_S_d0_1_2 := by decide
  bcast_S_S1x8192x16 := by decide
  reducesTo_S1x8192x16_S1x8192_d2 := by decide
  bcast_S1x8192_S1x8192x1_0_1 := by decide
  bcast_S1x8192_S1x1x8192_0_2 := by decide
  bcast_S1x8192x1_S1x8192x8192_0_1_2 := by decide
  bcast_S1x1x8192_S1x8192x8192_0_1_2 := by decide
  bcast_S_S1x8192x8192 := by decide
  sliceFits_S1x8192x8192_S1x8192x11 := by decide
  slices_S1x8192x11_S1x8192x10_0_0_0 := by decide
  slices_S1x8192x11_S1x8192x10_0_0_1 := by decide
  dot_S1x8192x16_S1x8192x16_S1x8192x8192_2_2_1_1_0_0_wf := by decide

end Cert.Pre

namespace Cert.ReferenceIdeal.Run

open Cert.ReferenceIdeal Idealize.ShloMosaic Idealize.ShloMosaic.TcCoe Idealize.SL.Sem

variable {F : FTy → Type} [FloatOps F]

/-- Every weakly fair execution of the reference ends, with the arguments as they were and every
counter at zero (it declares none). -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems (by decide) r.2⟩)
    (Value.run (F := F) m ρ)

end Cert.ReferenceIdeal.Run

end
-- ==== Proof.IdealPrep.lean ====
/- The first call (scaled coordinates, minus twice their transpose, squared lengths): its body and proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-- Window `w`'s block at grid point `t` of the first call, read from its array at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the first call's input holds its block, for any proof data that leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S8192x16 := Rect.unit (s := S8192x16) ![0, 0] S8192x16.size inb_S8192x16_S8192x16_0_0
abbrev r0_1 : Rect S16x8192 := Rect.unit (s := S16x8192) ![0, 0] S16x8192.size inb_S16x8192_S16x8192_0_0
abbrev r0_2 : Rect S1x8192 := Rect.unit (s := S1x8192) ![0, 0] S1x8192.size inb_S1x8192_S1x8192_0_0

/-- What the first call stores as the scaled coordinates. -/
def out0_1 (x0 : Vec F S8192x16 .f32) : Vec F S8192x16 .f32 :=
  View.canon [⟨r0_0, k0_pay1 (View.ld x0 r0_0)⟩]

/-- The single store covers the buffer of the scaled coordinates. -/
theorem cover0_1 (p0 : Vec F S8192x16 .f32) (y : S8192x16.Idx) :
    ∃ pc ∈ ([⟨r0_0, p0⟩] : List (View.Piece (Elt F) S8192x16 .f32)), y ∈ pc.1.set :=
  View.cover_of_tiled [⟨r0_0, p0⟩] S8192x16.size (by rfl) y

/-- What the first call stores as minus twice their transpose. -/
def out0_2 (x0 : Vec F S8192x16 .f32) : Vec F S16x8192 .f32 :=
  View.canon [⟨r0_1, k0_pay3 (View.ld x0 r0_0)⟩]

/-- The single store covers the buffer of the transpose. -/
theorem cover0_2 (p0 : Vec F S16x8192 .f32) (y : S16x8192.Idx) :
    ∃ pc ∈ ([⟨r0_1, p0⟩] : List (View.Piece (Elt F) S16x8192 .f32)), y ∈ pc.1.set :=
  View.cover_of_tiled [⟨r0_1, p0⟩] S16x8192.size (by rfl) y

/-- What the first call stores as the squared lengths. -/
def out0_3 (x0 : Vec F S8192x16 .f32) : Vec F S1x8192 .f32 :=
  View.canon [⟨r0_2, k0_pay4 (View.ld x0 r0_0)⟩]

/-- The single store covers the buffer of the squared lengths. -/
theorem cover0_3 (p0 : Vec F S1x8192 .f32) (y : S1x8192.Idx) :
    ∃ pc ∈ ([⟨r0_2, p0⟩] : List (View.Piece (Elt F) S1x8192 .f32)), y ∈ pc.1.set :=
  View.cover_of_tiled [⟨r0_2, p0⟩] S1x8192.size (by rfl) y

set_option maxHeartbeats 1000000 in
/-- The first call's body, run on whole buffers: the input stays, each output ends at `out0_W` of it. -/
theorem sound_kernel0 (c : Dev nD) (E : Set ℕ) (arg0 : Memref sig .tc .vmem S8192x16 .f32) (harg0 : arg0.IsWhole) (arg1 : Memref sig .tc .vmem S8192x16 .f32) (harg1 : arg1.IsWhole) (arg2 : Memref sig .tc .vmem S16x8192 .f32) (harg2 : arg2.IsWhole) (arg3 : Memref sig .tc .vmem S1x8192 .f32) (harg3 : arg3.IsWhole)
    (x0 : Vec F S8192x16 .f32) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare (out0_1 x0) ∗ owns (c : Thread nD τ) arg2 fullShare (out0_2 x0) ∗ owns (c : Thread nD τ) arg3 fullShare (out0_3 x0)) -∗ K ⟨⟩))
      ⊢ wp frame (wpE (defs₀ (F := F)) Variants.none c none) E (cc0__prep arg0 harg0 arg1 harg1 arg2 harg2 arg3 harg3) K := by
  simp only [cc0__prep_eq_skeleton]; unfold cc0__prep_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- Proof data of the first call over entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
  Φ _ := Pipeline.ΦA spec0 c
  q _ := fullShare
  owed _ := 0

/-- The arrays of the first call's proof data are the entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the first call's body starts from at a grid point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a grid point, from `bodyPre0` to `bodyPost0`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row for the first call. -/
theorem defs₀_row0 (t : Fin cfg0.N) :
    defs₀ (F := F) .tc cfg0.body (cfg0.bodyArgs t (cfg0.slots t)) = bodyAt0 t := by
  unfold defs₀; rw [Defs.onTc_tc]

/-- The pipeline's obligation for the first call's body. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.IdealAffinity.lean ====
/- The second call (distances, candidate lists, the conditional threshold, affinities): its body and proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The conditional's test: no row's smallest displaced value reaches that row's tenth candidate. -/
def okBit (v526 : FVec F S256x128 .f32) (v569 : FVec F S256x384 .f32) (v573 : IVec S256x384 1) (cst : F .f32) : BitVec 1 :=
  Scalar.cmpi .ne (Scalar.extui (Scalar.xori (Scalar.cmpf .ogt (k1_pay405 v526 v569 v573 cst) (Scalar.ofBits .f32 0x00000000#32)) 1#1) : BitVec 32) 0#32

/-- The threshold column that the conditional yields: from the candidates where the test holds, else from whole rows. -/
def tauSel (v13 : FVec F S256x8192 .f32) (v526 : FVec F S256x128 .f32) (v569 : FVec F S256x384 .f32) (v573 : IVec S256x384 1) (cst : F .f32) : FVec F S256x1 .f32 :=
  if okBit v526 v569 v573 cst = 1#1 then k1_pay404 v569 v573 cst else k1_pay406 (k1_pay2 v13) (k1_pay3 v13)

set_option maxRecDepth 65536 in
/-- The part of the body that holds the conditional, with its two branches read as the one value `tauSel`. -/
theorem part12_eq (i : grid1.Coords) (arg1 : Memref sig .tc .smem S1x2 .f32) (harg1 : arg1.IsWhole) (arg2 : Memref sig .tc .vmem S256x16 .f32) (harg2 : arg2.IsWhole)
    (arg3 : Memref sig .tc .vmem S16x8192 .f32) (harg3 : arg3.IsWhole) (arg4 : Memref sig .tc .vmem S1x8192 .f32) (harg4 : arg4.IsWhole)
    (arg5 : Memref sig .tc .vmem S256x8192 .f32) (harg5 : arg5.IsWhole)
    (v13 : FVec F S256x8192 .f32) (v526 : FVec F S256x128 .f32) (v569 : FVec F S256x384 .f32) (v573 : IVec S256x384 1) (cst : F .f32) :
    k1_part12 (F := F) i arg1 harg1 arg2 harg2 arg3 harg3 arg4 harg4 arg5 harg5 v13 v526 v569 v573 cst = (do
      let v599 : Elt F .f32 ← smemLoad arg1 (Rect.unit (s := S1x2) ![0, 0] S1x1.size inb_S1x2_S1x1_0_0) numel1_S1x1 rfl
      let v601 : Elt F .f32 ← smemLoad arg1 (Rect.unit (s := S1x2) ![0, 1] S1x1.size inb_S1x2_S1x1_0_1) numel1_S1x1 rfl
      pure ⟨k1_pay407 v13 v599 v601, k1_pay408 v13 (tauSel v13 v526 v569 v573 cst), k1_pay409 (F := F)⟩) := by
  rw [k1_part12_eq_skeleton]
  unfold k1_part12_skel
  rw [k1_part1_eq_skeleton]
  unfold k1_part1_skel tauSel okBit
  dsimp only
  split
  · rfl
  · sl_kernel_rfl

section Regions
variable (V : (c : Dev nD) → (b : Ref sig .tc) → Buf (Elt F) ((c : Thread nD τ).loc b))

/-- Window `w`'s block at grid point `t` of the second call, read from its array at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block, for any proof data that leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- A buffer through which the output block is stated. -/
abbrev VO1_4 : View sig .tc .vmem S256x8192 .f32 := (Memref.whole cc1_stg4_0 : Memref sig .tc .vmem S256x8192 .f32).view
abbrev ms1_0 (t : Fin cfg1.N) : Memref sig .tc .smem S1x2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x8192 .f32 := win1_4.stage (cfg1.slots t 4)
abbrev hs1_4 (t : Fin cfg1.N) : (ms1_4 t).IsWhole := hstage1_4 ((cfg1.slots t 4).cast nbuf1_4)

set_option maxHeartbeats 1000000 in
/-- The second call's body, run on whole buffers: the inputs stay, and the output buffer ends with one piece written. The piece
is found by the run; the two branches of the conditional are one value, `tauSel`. -/
noncomputable def kernelRun1_A (c : Dev nD) (i : grid1.Coords) (arg1 : Memref sig .tc .smem S1x2 .f32) (harg1 : arg1.IsWhole) (arg2 : Memref sig .tc .vmem S256x16 .f32) (harg2 : arg2.IsWhole) (arg3 : Memref sig .tc .vmem S16x8192 .f32) (harg3 : arg3.IsWhole) (arg4 : Memref sig .tc .vmem S1x8192 .f32) (harg4 : arg4.IsWhole) (arg5 : Memref sig .tc .vmem S256x8192 .f32) (harg5 : arg5.IsWhole)
    (x0 : Vec F S1x2 .f32) (x1 : Vec F S256x16 .f32) (x2 : Vec F S16x8192 .f32) (x3 : Vec F S1x8192 .f32) :
    { L4 : List (View.Piece (Elt F) S256x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1__affinity i arg1 harg1 arg2 harg2 arg3 harg3 arg4 harg4 arg5 harg5) K } := by
  refine ⟨?_, fun E K => ?run⟩
  case run =>
    simp only [cc1__affinity_eq_skeleton]; unfold cc1__affinity_skel
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, part12_eq]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The piece covers the output block. -/
theorem cover1_A_4 (c : Dev nD) (i : grid1.Coords) (arg1 : Memref sig .tc .smem S1x2 .f32) (harg1 : arg1.IsWhole) (arg2 : Memref sig .tc .vmem S256x16 .f32) (harg2 : arg2.IsWhole) (arg3 : Memref sig .tc .vmem S16x8192 .f32) (harg3 : arg3.IsWhole) (arg4 : Memref sig .tc .vmem S1x8192 .f32) (harg4 : arg4.IsWhole) (arg5 : Memref sig .tc .vmem S256x8192 .f32) (harg5 : arg5.IsWhole)
    (x0 : Vec F S1x2 .f32) (x1 : Vec F S256x16 .f32) (x2 : Vec F S16x8192 .f32) (x3 : Vec F S1x8192 .f32) (y : S256x8192.Idx) :
    ∃ pc ∈ (kernelRun1_A c i arg1 harg1 arg2 harg2 arg3 harg3 arg4 harg4 arg5 harg5 x0 x1 x2 x3).1, y ∈ pc.1.set :=
  View.cover_of_tiledL (kernelRun1_A c i arg1 harg1 arg2 harg2 arg3 harg3 arg4 harg4 arg5 harg5 x0 x1 x2 x3).1 S256x8192.size (by sl_kernel_rfl) y

/-- What the body leaves in the output buffer. -/
def out1_A_4 (c : Dev nD) (i : grid1.Coords) (arg1 : Memref sig .tc .smem S1x2 .f32) (harg1 : arg1.IsWhole) (arg2 : Memref sig .tc .vmem S256x16 .f32) (harg2 : arg2.IsWhole) (arg3 : Memref sig .tc .vmem S16x8192 .f32) (harg3 : arg3.IsWhole) (arg4 : Memref sig .tc .vmem S1x8192 .f32) (harg4 : arg4.IsWhole) (arg5 : Memref sig .tc .vmem S256x8192 .f32) (harg5 : arg5.IsWhole)
    (x0 : Vec F S1x2 .f32) (x1 : Vec F S256x16 .f32) (x2 : Vec F S16x8192 .f32) (x3 : Vec F S1x8192 .f32) : Vec F S256x8192 .f32 :=
  VO1_4.read (Elt F) (VO1_4.writes (Elt F) VO1_4.junk (kernelRun1_A c i arg1 harg1 arg2 harg2 arg3 harg3 arg4 harg4 arg5 harg5 x0 x1 x2 x3).1)

/-- The output block at a grid point. -/
def outsAt1 (c : Dev nD) (t : Fin cfg1.N) : Vec F S256x8192 .f32 :=
  out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)

/-- Proof data of the second call over entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The arrays of the second call's proof data are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the second call's body starts from at a grid point. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- What it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at a grid point, from `bodyPre1` to `bodyPost1`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_4
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _)

/-- The body table's row for the second call. -/
theorem defs₀_row1 (t : Fin cfg1.N) :
    defs₀ (F := F) .tc cfg1.body (cfg1.bodyArgs t (cfg1.slots t)) = bodyAt1 t := by
  unfold defs₀; rw [Defs.onTc_tc]

/-- The pipeline's obligation for the second call's body. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.IdealRun.lean ====
/- The whole program: host stretches and the two calls as segments, the contents between them, and the run. -/
module

public import proofs.«01_k».proof.Proof.IdealPrep
public import proofs.«01_k».proof.Proof.IdealAffinity

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v2, main_v3, main_v4, main_v5, main_v6, main_v7, main_v8]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v10]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- Buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- Buffers after the first host stretch. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The first call's entry contents. -/
abbrev V1 : (c : Dev nD) → (b : Ref sig .tc) → Buf (Elt F) ((c : Thread nD τ).loc b) := fun c b => W1 m ρ c b
/-- Buffers after the first call: its arrays at what the pipeline leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The first call's exit contents. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Buffers after the second host stretch. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The second call's entry contents. -/
abbrev V3 : (c : Dev nD) → (b : Ref sig .tc) → Buf (Elt F) ((c : Thread nD τ).loc b) := fun c b => W3 m ρ c b
/-- Buffers after the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The second call's exit contents. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Buffers at the return. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

abbrev adm : (p : Fin 2) → (pcfgs (F := F) p).Adm := fun p => (cfgs p).toPCfg_adm
/-- The proof data of both pipelines, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides along with the buffers: the generator register and the empty debt. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The first call as a segment of the run, from `W1` to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment of the run, from `W3` to `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The five segments of the program in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run terminates, every counter at zero and every array of the program at the last boundary's contents. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- Every run terminates with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_main m ρ)

/-- Every run terminates with the result array at the last boundary's contents and the arguments as launched. -/
theorem run_result : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨h.1 c _ (mem_uc main_v10 (by decide)),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩) (run_main m ρ)

end Cert.KernelIdeal.Run

end
-- ==== Proof.ReferenceParts.lean ====
/- The reference's parts named, and what it returns in their terms. -/
module

public import proofs.«01_k».proof.Proof.Facts

@[expose] public section

set_option maxRecDepth 16384

noncomputable section

namespace Cert.ReferenceIdeal.Parts

open Cert.ReferenceIdeal Cert.ReferenceIdeal.Gen Idealize.ShloMosaic Idealize.ShloMosaic.TcCoe

variable {F : FTy → Type} [FloatOps F]

/-- The mean point. -/
def cent (x : FVec F S1x8192x16 .f32) : FVec F S1x1x16 .f32 :=
  Host.divf (broadcastInDim S1x1x16 ![0, 2] bcast_S1x16_S1x1x16_0_2 (Host.reduceAdd x (constant S_ .f32 0x00000000#32) reducesTo_S1x8192x16_S1x16_d1 h_S_)) (broadcastInDim S1x1x16 ![] bcast_S_S1x1x16 (constant S_ .f32 0x46000000#32))

/-- The points moved to their mean and scaled. -/
def scaled (x : FVec F S1x8192x16 .f32) : FVec F S1x8192x16 .f32 :=
  mulf (subf x (broadcastInDim S1x8192x16 ![0, 1, 2] bcast_S1x1x16_S1x8192x16_0_1_2 (cent x))) (broadcastInDim S1x8192x16 ![] bcast_S_S1x8192x16 (Host.divf (constant S_ .f32 0x3F666666#32) (Host.reduce FloatOps.maximumf (Host.absf (subf x (broadcastInDim S1x8192x16 ![0, 1, 2] bcast_S1x1x16_S1x8192x16_0_1_2 (cent x)))) (constant S_ .f32 0xFF800000#32) reducesTo_S1x8192x16_S_d0_1_2 h_S_)))

/-- The squared distances, bounded below by zero. -/
def dists (y : FVec F S1x8192x16 .f32) : FVec F S1x8192x8192 .f32 :=
  maximumf (subf (addf (broadcastInDim S1x8192x8192 ![0, 1, 2] bcast_S1x8192x1_S1x8192x8192_0_1_2 (broadcastInDim S1x8192x1 ![0, 1] bcast_S1x8192_S1x8192x1_0_1 (Host.reduceAdd (mulf y y) (constant S_ .f32 0x00000000#32) reducesTo_S1x8192x16_S1x8192_d2 h_S_))) (broadcastInDim S1x8192x8192 ![0, 1, 2] bcast_S1x1x8192_S1x8192x8192_0_1_2 (broadcastInDim S1x1x8192 ![0, 2] bcast_S1x8192_S1x1x8192_0_2 (Host.reduceAdd (mulf y y) (constant S_ .f32 0x00000000#32) reducesTo_S1x8192x16_S1x8192_d2 h_S_)))) (mulf (broadcastInDim S1x8192x8192 ![] bcast_S_S1x8192x8192 (constant S_ .f32 0x40000000#32)) (Host.dotGeneral dot_S1x8192x16_S1x8192x16_S1x8192x8192_2_2_1_1_0_0 none y y))) (broadcastInDim S1x8192x8192 ![] bcast_S_S1x8192x8192 (constant S_ .f32 0x00000000#32))

/-- The affinities. -/
def aff (d : FVec F S1x8192x8192 .f32) (T θ : FVec F S_ .f32) : FVec F S1x8192x8192 .f32 :=
  Host.divf (broadcastInDim S1x8192x8192 ![] bcast_S_S1x8192x8192 (constant S_ .f32 0x3F800000#32)) (addf (broadcastInDim S1x8192x8192 ![] bcast_S_S1x8192x8192 (constant S_ .f32 0x3F800000#32)) (Host.exp (Host.negf (mulf (broadcastInDim S1x8192x8192 ![] bcast_S_S1x8192x8192 T) (subf (broadcastInDim S1x8192x8192 ![] bcast_S_S1x8192x8192 (Host.absf θ)) d)))))

/-- The columns of the ten largest affinities of every row. -/
def best (A : FVec F S1x8192x8192 .f32) : IVec S1x8192x10 32 :=
  (Host.topK S1x8192x10 2 (FloatOps.cmpfTotal .gt) A sliceFits_S1x8192x8192_S1x8192x10).2

/-- One at the chosen columns and zero elsewhere. -/
def mask (K : IVec S1x8192x10 32) : FVec F S1x8192x8192 .f32 :=
  Host.scatter scatter_S1x8192x8192_S1x8192x10x3_S1x8192x10_n_012_012_3 (fun _ b => b) (broadcastInDim S1x8192x8192 ![] bcast_S_S1x8192x8192 (constant S_ .f32 0x00000000#32)) ((concatenate S1x8192x10x3 3 [⟨S1x8192x10x1, ((broadcastInDim S1x8192x10x1 ![0, 1, 2] bcast_S1x8192x10_S1x8192x10x1_0_1_2 (broadcastInDim S1x8192x10 ![0, 1, 2] bcast_S1x1x1_S1x8192x10_0_1_2 (select (cmpi .slt (broadcastInDim S1x1x1 ![0] bcast_S1_S1x1x1_0 (iotaInDim S1 32 0)) (broadcastInDim S1x1x1 ![] bcast_S_S1x1x1 (constantI S_ 32 0#32))) (addi (broadcastInDim S1x1x1 ![0] bcast_S1_S1x1x1_0 (iotaInDim S1 32 0)) (broadcastInDim S1x1x1 ![] bcast_S_S1x1x1 (constantI S_ 32 1#32))) (broadcastInDim S1x1x1 ![0] bcast_S1_S1x1x1_0 (iotaInDim S1 32 0))))) : (⟨S1x8192x10x1, .i32⟩ : BufTy).Contents (Elt F))⟩, ⟨S1x8192x10x1, ((broadcastInDim S1x8192x10x1 ![0, 1, 2] bcast_S1x8192x10_S1x8192x10x1_0_1_2 (broadcastInDim S1x8192x10 ![0, 1, 2] bcast_S1x8192x1_S1x8192x10_0_1_2 (select (cmpi .slt (broadcastInDim S1x8192x1 ![1] bcast_S8192_S1x8192x1_1 (iotaInDim S8192 32 0)) (broadcastInDim S1x8192x1 ![] bcast_S_S1x8192x1 (constantI S_ 32 0#32))) (addi (broadcastInDim S1x8192x1 ![1] bcast_S8192_S1x8192x1_1 (iotaInDim S8192 32 0)) (broadcastInDim S1x8192x1 ![] bcast_S_S1x8192x1 (constantI S_ 32 8192#32))) (broadcastInDim S1x8192x1 ![1] bcast_S8192_S1x8192x1_1 (iotaInDim S8192 32 0))))) : (⟨S1x8192x10x1, .i32⟩ : BufTy).Contents (Elt F))⟩, ⟨S1x8192x10x1, ((broadcastInDim S1x8192x10x1 ![0, 1, 2] bcast_S1x8192x10_S1x8192x10x1_0_1_2 (select (cmpi .slt K (broadcastInDim S1x8192x10 ![] bcast_S_S1x8192x10 (constantI S_ 32 0#32))) (addi K (broadcastInDim S1x8192x10 ![] bcast_S_S1x8192x10 (constantI S_ 32 8192#32))) K)) : (⟨S1x8192x10x1, .i32⟩ : BufTy).Contents (Elt F))⟩] concatenates_S1x8192x10x1_S1x8192x10x1_S1x8192x10x1_S1x8192x10x3_d3 : (⟨S1x8192x10x3, .i32⟩ : BufTy).Contents (Elt F))) (broadcastInDim S1x8192x10 ![] bcast_S_S1x8192x10 (constant S_ .f32 0x3F800000#32))

/-- The affinities of an input. -/
def affinity (x : FVec F S1x8192x16 .f32) (T θ : FVec F S_ .f32) : FVec F S1x8192x8192 .f32 := aff (dists (scaled x)) T θ

theorem result_eq (m : (ℓ : Loc nD τ sig) → Buf (Elt F) ℓ) (c : Dev nD) : Value.res_main_v65 m c
    = mulf (affinity (m ((c.tc : Thread nD τ).loc main_arg0)) (m ((c.tc : Thread nD τ).loc main_arg2)) (m ((c.tc : Thread nD τ).loc main_arg3)))
      (mask (best (affinity (m ((c.tc : Thread nD τ).loc main_arg0)) (m ((c.tc : Thread nD τ).loc main_arg2)) (m ((c.tc : Thread nD τ).loc main_arg3))))) := by
  unfold Value.res_main_v65 affinity aff dists scaled cent mask best
  rfl

/-- The eleven largest affinities of every row. -/
def best11 (A : FVec F S1x8192x8192 .f32) : FVec F Cert.Pre_untied.S1x8192x11 .f32 :=
  (Host.topK Cert.Pre_untied.S1x8192x11 2 (FloatOps.cmpfTotal .gt) A Cert.Pre_untied.Facts.sliceFits_S1x8192x8192_S1x8192x11).1

theorem pre_eq (x : FVec F S1x8192x16 .f32) (A : FVec F S1x8192x8192 .f32) (T θ : FVec F S_ .f32) : Cert.Pre_untied.fn x A T θ
    = (cmpf .ogt T (constant S_ .f32 0x00000000#32),
      cmpf .ogt (extractStridedSlice Cert.Pre_untied.S1x8192x10 ![0, 0, 0] (best11 (affinity x T θ)) Cert.Pre_untied.Facts.slices_S1x8192x11_S1x8192x10_0_0_0)
        (extractStridedSlice Cert.Pre_untied.S1x8192x10 ![0, 0, 1] (best11 (affinity x T θ)) Cert.Pre_untied.Facts.slices_S1x8192x11_S1x8192x10_0_0_1)) := by
  unfold Cert.Pre_untied.fn Cert.Pre_untied.fn_part1 Cert.Pre_untied.fn_part2 best11 affinity aff dists scaled cent
  rfl

end Cert.ReferenceIdeal.Parts

end
-- ==== Proof.Fold.lean ====
/- The second call's running selection: per lane the three smallest distances and the least value displaced, over 64 slices of a row. -/
module

public import proofs.«01_k».proof.Proof.IdealAffinity
public import Idealize.ShloMosaic.Lib.Pointwise
public import Idealize.ShloMosaic.Lib.Pipeline.ValueKit.Basic

/-!
The second call's body keeps, for each of a row's 128 lanes, the three smallest distances seen and the least value that was
pushed out of them. It does so slice by slice; this file states that as one recursion, `fold`, shows that the body's payloads
compute it, and states what the body stores, `stored`, in terms of it.
-/

@[expose] public section

set_option maxRecDepth 65536

noncomputable section

namespace Cert.KernelIdeal.Run

open Cert.KernelIdeal.Gen
open Idealize.ShloMosaic Idealize.ShloMosaic.TcCoe Idealize.ShloMosaic.Tactic

variable {F : FTy → Type} [FloatOps F] [Named F]

/-- The four vectors of the running selection, one entry per row and lane. -/
structure Lanes (F : FTy → Type) where
  a0 : FVec F S256x128 .f32
  a1 : FVec F S256x128 .f32
  a2 : FVec F S256x128 .f32
  a3 : FVec F S256x128 .f32

theorem slices_at (t : ℕ) : S256x8192.Slices ![0, 128 * (t % 64)] S256x128 := by
  refine ⟨rfl, fun a => ?_⟩
  have := Nat.mod_lt t (show 0 < 64 by decide)
  revert a
  refine Fin.forall_fin_two.2 ⟨?_, ?_⟩
  · show (0 : ℕ) + 256 ≤ 256
    omega
  · show 128 * (t % 64) + 128 ≤ 8192
    omega

/-- Slice `t` of the distances: columns `128 t` to `128 t + 127`. -/
def slc (d : FVec F S256x8192 .f32) (t : ℕ) : FVec F S256x128 .f32 :=
  extractStridedSlice S256x128 ![0, 128 * (t % 64)] d (slices_at t)

/-- A slice enters the selection. -/
def step (v : FVec F S256x128 .f32) (s : Lanes F) : Lanes F where
  a0 := minimumf s.a0 v
  a1 := minimumf s.a1 (maximumf s.a0 v)
  a2 := minimumf s.a2 (maximumf s.a1 (maximumf s.a0 v))
  a3 := minimumf s.a3 (maximumf s.a2 (maximumf s.a1 (maximumf s.a0 v)))

/-- `n` slices, from slice `a` on, enter the selection. -/
def steps (d : FVec F S256x8192 .f32) (s : Lanes F) (a : ℕ) : ℕ → Lanes F
  | 0 => s
  | n + 1 => step (slc d (a + n)) (steps d s a n)

theorem steps_add (d : FVec F S256x8192 .f32) (s : Lanes F) (a n : ℕ) : ∀ m : ℕ,
    steps d (steps d s a n) (a + n) m = steps d s a (n + m)
  | 0 => rfl
  | m + 1 => by
    show step (slc d (a + n + m)) (steps d (steps d s a n) (a + n) m) = step (slc d (a + (n + m))) (steps d s a (n + m))
    rw [steps_add d s a n m, Nat.add_assoc]

/-- The empty selection. -/
def empty : Lanes F := ⟨k1_pay5, k1_pay5, k1_pay5, k1_pay5⟩

/-- The selection over a whole row. -/
def fold (d : FVec F S256x8192 .f32) : Lanes F := steps d empty 0 64

/-- Five vectors handed from one part of the body to the next. -/
structure Mid (F : FTy → Type) where
  p : FVec F S256x128 .f32
  q : FVec F S256x128 .f32
  r : FVec F S256x128 .f32
  s : FVec F S256x128 .f32
  u : FVec F S256x128 .f32

/-- The selection that a hand-over stands for, where the slice in progress has passed the first vector. -/
def finA (m : Mid F) : Lanes F :=
  ⟨m.s, minimumf m.p m.u, minimumf m.q (maximumf m.p m.u), minimumf m.r (maximumf m.q (maximumf m.p m.u))⟩

/-- The selection that a hand-over stands for, where the slice in progress has passed the first three vectors. -/
def finB (m : Mid F) : Lanes F := ⟨m.q, m.r, m.s, minimumf m.p m.u⟩

/-- The first hand-over. -/
def mid2 (v0 : Vec F S16x8192 .f32) (v2 : Vec F S256x16 .f32) (v4 : Vec F S1x8192 .f32) : Mid F :=
  ⟨k1_pay27 v0 v2 v4, k1_pay29 v0 v2 v4, k1_pay30 v0 v2 v4, k1_pay32 v0 v2 v4, k1_pay33 v0 v2 v4⟩

theorem mid2_eq (v0 : Vec F S16x8192 .f32) (v2 : Vec F S256x16 .f32) (v4 : Vec F S1x8192 .f32) :
    finA (mid2 v0 v2 v4) = steps (k1_pay4 v0 v2 v4) empty 0 5 := by
  sl_kernel_rfl

/-- Hand-over 2 from hand-over 1. -/
def mid3 (d : FVec F S256x8192 .f32) (m : Mid F) : Mid F :=
  ⟨k1_pay73 d m.p m.q m.r m.s m.u, k1_pay75 d m.s, k1_pay77 d m.p m.s m.u, k1_pay79 d m.p m.q m.s m.u, k1_pay80 d m.p m.q m.s m.u⟩

theorem mid3_eq (d : FVec F S256x8192 .f32) (m : Mid F) : finB (mid3 d m) = steps d (finA m) 5 7 := by
  sl_kernel_rfl

/-- Hand-over 3 from hand-over 2. -/
def mid4 (d : FVec F S256x8192 .f32) (m : Mid F) : Mid F :=
  ⟨k1_pay120 d m.q m.r, k1_pay122 d m.q m.r m.s, k1_pay123 d m.p m.q m.r m.s m.u, k1_pay125 d m.q, k1_pay126 d m.q⟩

theorem mid4_eq (d : FVec F S256x8192 .f32) (m : Mid F) : finA (mid4 d m) = steps d (finB m) 12 8 := by
  sl_kernel_rfl

/-- Hand-over 4 from hand-over 3. -/
def mid5 (d : FVec F S256x8192 .f32) (m : Mid F) : Mid F :=
  ⟨k1_pay166 d m.p m.q m.r m.s m.u, k1_pay168 d m.s, k1_pay170 d m.p m.s m.u, k1_pay172 d m.p m.q m.s m.u, k1_pay173 d m.p m.q m.s m.u⟩

theorem mid5_eq (d : FVec F S256x8192 .f32) (m : Mid F) : finB (mid5 d m) = steps d (finA m) 20 7 := by
  sl_kernel_rfl

/-- Hand-over 5 from hand-over 4. -/
def mid6 (d : FVec F S256x8192 .f32) (m : Mid F) : Mid F :=
  ⟨k1_pay213 d m.q m.r, k1_pay215 d m.q m.r m.s, k1_pay216 d m.p m.q m.r m.s m.u, k1_pay218 d m.q, k1_pay219 d m.q⟩

theorem mid6_eq (d : FVec F S256x8192 .f32) (m : Mid F) : finA (mid6 d m) = steps d (finB m) 27 8 := by
  sl_kernel_rfl

/-- Hand-over 6 from hand-over 5. -/
def mid7 (d : FVec F S256x8192 .f32) (m : Mid F) : Mid F :=
  ⟨k1_pay259 d m.p m.q m.r m.s m.u, k1_pay261 d m.s, k1_pay263 d m.p m.s m.u, k1_pay265 d m.p m.q m.s m.u, k1_pay266 d m.p m.q m.s m.u⟩

theorem mid7_eq (d : FVec F S256x8192 .f32) (m : Mid F) : finB (mid7 d m) = steps d (finA m) 35 7 := by
  sl_kernel_rfl

/-- Hand-over 7 from hand-over 6. -/
def mid8 (d : FVec F S256x8192 .f32) (m : Mid F) : Mid F :=
  ⟨k1_pay306 d m.q m.r, k1_pay308 d m.q m.r m.s, k1_pay309 d m.p m.q m.r m.s m.u, k1_pay311 d m.q, k1_pay312 d m.q⟩

theorem mid8_eq (d : FVec F S256x8192 .f32) (m : Mid F) : finA (mid8 d m) = steps d (finB m) 42 8 := by
  sl_kernel_rfl

/-- Hand-over 8 from hand-over 7. -/
def mid9 (d : FVec F S256x8192 .f32) (m : Mid F) : Mid F :=
  ⟨k1_pay352 d m.p m.q m.r m.s m.u, k1_pay354 d m.s, k1_pay356 d m.p m.s m.u, k1_pay358 d m.p m.q m.s m.u, k1_pay359 d m.p m.q m.s m.u⟩

theorem mid9_eq (d : FVec F S256x8192 .f32) (m : Mid F) : finB (mid9 d m) = steps d (finA m) 50 7 := by
  sl_kernel_rfl

/-- The last part's displaced values and its candidates: the three vectors of the selection, side by side. -/
def cands (s : Lanes F) : FVec F S256x384 .f32 :=
  concatenate S256x384 1 [⟨S256x128, s.a0⟩, ⟨S256x128, s.a1⟩, ⟨S256x128, s.a2⟩] concatenates_S256x128_S256x128_S256x128_S256x384_d1

theorem spill_eq (d : FVec F S256x8192 .f32) (m : Mid F) :
    k1_pay399 d m.p m.q m.r m.s m.u = (steps d (finB m) 57 7).a3 := by
  sl_kernel_rfl

theorem cands_eq (d : FVec F S256x8192 .f32) (m : Mid F) :
    k1_pay400 d m.q m.r m.s = cands (steps d (finB m) 57 7) := by
  sl_kernel_rfl

/-- The last hand-over. -/
def mid (v0 : Vec F S16x8192 .f32) (v2 : Vec F S256x16 .f32) (v4 : Vec F S1x8192 .f32) : Mid F :=
  mid9 (k1_pay4 v0 v2 v4) (mid8 (k1_pay4 v0 v2 v4) (mid7 (k1_pay4 v0 v2 v4) (mid6 (k1_pay4 v0 v2 v4)
    (mid5 (k1_pay4 v0 v2 v4) (mid4 (k1_pay4 v0 v2 v4) (mid3 (k1_pay4 v0 v2 v4) (mid2 v0 v2 v4)))))))

theorem mid_eq (v0 : Vec F S16x8192 .f32) (v2 : Vec F S256x16 .f32) (v4 : Vec F S1x8192 .f32) :
    steps (k1_pay4 v0 v2 v4) (finB (mid v0 v2 v4)) 57 7 = fold (k1_pay4 v0 v2 v4) := by
  unfold mid fold
  rw [mid9_eq, mid8_eq, mid7_eq, mid6_eq, mid5_eq, mid4_eq, mid3_eq, mid2_eq]
  rw [steps_add _ _ 0 5 7, steps_add _ _ 0 12 8, steps_add _ _ 0 20 7, steps_add _ _ 0 27 8, steps_add _ _ 0 35 7,
    steps_add _ _ 0 42 8, steps_add _ _ 0 50 7, steps_add _ _ 0 57 7]

/-- The least entry of each row, 384 wide. -/
def minCol384 (w : FVec F S256x384 .f32) : FVec F S256x1 .f32 :=
  shapeCast S256x1 (multiReduction .minimumf [1] S256 w 0x7F800000#32 reduces_S256x384_S256 (.inl rfl) rfl) shapeCasts_S256_S256x1

/-- Each row with its least entry masked, 384 wide. -/
def mask384 (w : FVec F S256x384 .f32) : FVec F S256x384 .f32 :=
  select (cmpf .ole w (broadcastTo S256x384 (minCol384 w) broadcasts_S256x1_S256x384))
    (broadcast S256x384 (Scalar.ofBits .f32 0x7F800000#32 : F .f32)) w

/-- `n` maskings, 384 wide. -/
def masks384 (w : FVec F S256x384 .f32) : ℕ → FVec F S256x384 .f32
  | 0 => w
  | n + 1 => mask384 (masks384 w n)

/-- The least entry of each row, 8192 wide. -/
def minCol (w : FVec F S256x8192 .f32) : FVec F S256x1 .f32 :=
  shapeCast S256x1 (multiReduction .minimumf [1] S256 w 0x7F800000#32 reduces_S256x8192_S256 (.inl rfl) rfl) shapeCasts_S256_S256x1

/-- Each row with its least entry masked, 8192 wide. -/
def mask (w : FVec F S256x8192 .f32) : FVec F S256x8192 .f32 :=
  select (cmpf .ole w (broadcastTo S256x8192 (minCol w) broadcasts_S256x1_S256x8192))
    (broadcast S256x8192 (Scalar.ofBits .f32 0x7F800000#32 : F .f32)) w

/-- `n` maskings, 8192 wide. -/
def masks (w : FVec F S256x8192 .f32) : ℕ → FVec F S256x8192 .f32
  | 0 => w
  | n + 1 => mask (masks w n)

/-- The tenth candidate of each row. -/
def tenth384 (w : FVec F S256x384 .f32) : FVec F S256x1 .f32 := minCol384 (masks384 w 9)

/-- The tenth distance of each row. -/
def tenth (w : FVec F S256x8192 .f32) : FVec F S256x1 .f32 := minCol (masks w 9)

/-- `1` in some row where a displaced value is at or below the tenth candidate, else `0`. -/
def spilt (v526 : FVec F S256x128 .f32) (k : FVec F S256x1 .f32) : F .f32 :=
  extractAt ![0, 0, 0] (shapeCast S1x1x1 (multiReduction .maximumf [1, 2] S1 (shapeCast S1x256x1
    (select (cmpf .ole (shapeCast S256x1 (multiReduction .minimumf [1] S256 v526 0x7F800000#32 reduces_S256x128_S256 (.inl rfl) rfl) shapeCasts_S256_S256x1) k)
      (broadcast S256x1 (Scalar.ofBits .f32 0x3F800000#32 : F .f32)) (broadcast S256x1 (Scalar.ofBits .f32 0x00000000#32 : F .f32)))
    shapeCasts_S256x1_S1x256x1) 0xFF800000#32 reduces_S1x256x1_S1 (.inl rfl) rfl) shapeCasts_S1_S1x1x1) inpos_S1x1x1_p0_0_0

/-- The conditional's bit. -/
def clear (v526 : FVec F S256x128 .f32) (k : FVec F S256x1 .f32) : BitVec 1 :=
  Scalar.cmpi .ne (Scalar.extui (Scalar.xori (Scalar.cmpf .ogt (spilt v526 k) (Scalar.ofBits .f32 0x00000000#32)) 1#1) : BitVec 32) 0#32

/-- The threshold column of a block of distances. -/
def tau (d : FVec F S256x8192 .f32) : FVec F S256x1 .f32 :=
  if clear (fold d).a3 (tenth384 (cands (fold d))) = 1#1 then tenth384 (cands (fold d)) else tenth d

theorem tauSel_eq (d : FVec F S256x8192 .f32) (v526 : FVec F S256x128 .f32) (c : FVec F S256x384 .f32) (v528 : FVec F S256 .f32)
    (h : v528 = multiReduction .minimumf [1] S256 c 0x7F800000#32 reduces_S256x384_S256 (.inl rfl) rfl) :
    tauSel d v526 (k1_pay402 c v528) (k1_pay403 c v528) (Scalar.ofBits .f32 0x7F800000#32)
      = if clear v526 (tenth384 c) = 1#1 then tenth384 c else tenth d := by
  subst h
  sl_kernel_rfl

/-- The block that the body stores, from a block of distances and the two constants of the call. -/
def stored (d : FVec F S256x8192 .f32) (c1 c0 : F .f32) : FVec F S256x8192 .f32 :=
  select (cmpf .ole d (broadcastTo S256x8192 (tau d) broadcasts_S256x1_S256x8192)) (k1_pay407 d c1 c0)
    (broadcast S256x8192 (Scalar.ofBits .f32 0x00000000#32 : F .f32))

/-- What the body stores, as its payloads over what it loads. -/
def raw (v0 : Vec F S16x8192 .f32) (v2 : Vec F S256x16 .f32) (v4 : Vec F S1x8192 .f32) (c1 c0 : F .f32) : FVec F S256x8192 .f32 :=
  k1_pay1 (k1_pay407 (k1_pay4 v0 v2 v4) c1 c0)
    (k1_pay408 (k1_pay4 v0 v2 v4) (tauSel (k1_pay4 v0 v2 v4)
      (k1_pay399 (k1_pay4 v0 v2 v4) (mid v0 v2 v4).p (mid v0 v2 v4).q (mid v0 v2 v4).r (mid v0 v2 v4).s (mid v0 v2 v4).u)
      (k1_pay402 (k1_pay400 (k1_pay4 v0 v2 v4) (mid v0 v2 v4).q (mid v0 v2 v4).r (mid v0 v2 v4).s) (k1_pay401 (k1_pay4 v0 v2 v4) (mid v0 v2 v4).q (mid v0 v2 v4).r (mid v0 v2 v4).s))
      (k1_pay403 (k1_pay400 (k1_pay4 v0 v2 v4) (mid v0 v2 v4).q (mid v0 v2 v4).r (mid v0 v2 v4).s) (k1_pay401 (k1_pay4 v0 v2 v4) (mid v0 v2 v4).q (mid v0 v2 v4).r (mid v0 v2 v4).s))
      (Scalar.ofBits .f32 0x7F800000#32)))
    k1_pay409

theorem raw_eq (v0 : Vec F S16x8192 .f32) (v2 : Vec F S256x16 .f32) (v4 : Vec F S1x8192 .f32) (c1 c0 : F .f32) :
    raw v0 v2 v4 c1 c0 = stored (k1_pay4 v0 v2 v4) c1 c0 := by
  unfold raw stored tau
  rw [tauSel_eq (v528 := k1_pay401 (k1_pay4 v0 v2 v4) (mid v0 v2 v4).q (mid v0 v2 v4).r (mid v0 v2 v4).s) _ _ _ (by unfold k1_pay401; rfl), spill_eq, cands_eq, mid_eq]
  rfl

set_option maxHeartbeats 1000000 in
/-- The one piece that the second call's body writes, over what it loads. -/
theorem piece1_raw (c : Dev nD) (i : grid1.Coords) (arg1 : Memref sig .tc .smem S1x2 .f32) (harg1 : arg1.IsWhole) (arg2 : Memref sig .tc .vmem S256x16 .f32) (harg2 : arg2.IsWhole) (arg3 : Memref sig .tc .vmem S16x8192 .f32) (harg3 : arg3.IsWhole) (arg4 : Memref sig .tc .vmem S1x8192 .f32) (harg4 : arg4.IsWhole) (arg5 : Memref sig .tc .vmem S256x8192 .f32) (harg5 : arg5.IsWhole)
    (x0 : Vec F S1x2 .f32) (x1 : Vec F S256x16 .f32) (x2 : Vec F S16x8192 .f32) (x3 : Vec F S1x8192 .f32) :
    (kernelRun1_A c i arg1 harg1 arg2 harg2 arg3 harg3 arg4 harg4 arg5 harg5 x0 x1 x2 x3).1
      = [⟨Rect.unit (s := S256x8192) ![0, 0] S256x8192.size inb_S256x8192_S256x8192_0_0,
          raw (View.readAt (Elt F) arg3.view (Rect.unit (s := S16x8192) ![0, 0] S16x8192.size inb_S16x8192_S16x8192_0_0).toLoadRect (harg3.unread x2))
            (View.readAt (Elt F) arg2.view (Rect.unit (s := S256x16) ![0, 0] S256x16.size inb_S256x16_S256x16_0_0).toLoadRect (harg2.unread x1))
            (View.readAt (Elt F) arg4.view (Rect.unit (s := S1x8192) ![0, 0] S1x8192.size inb_S1x8192_S1x8192_0_0).toLoadRect (harg4.unread x3))
            (kernelRun1_A.sl.r_46 c arg1 harg1 x0) (kernelRun1_A.sl.r_47 c arg1 harg1 x0)⟩] := by
  sl_kernel_rfl

/-- The one piece that the second call's body writes. -/
theorem piece1 (c : Dev nD) (i : grid1.Coords) (arg1 : Memref sig .tc .smem S1x2 .f32) (harg1 : arg1.IsWhole) (arg2 : Memref sig .tc .vmem S256x16 .f32) (harg2 : arg2.IsWhole) (arg3 : Memref sig .tc .vmem S16x8192 .f32) (harg3 : arg3.IsWhole) (arg4 : Memref sig .tc .vmem S1x8192 .f32) (harg4 : arg4.IsWhole) (arg5 : Memref sig .tc .vmem S256x8192 .f32) (harg5 : arg5.IsWhole)
    (x0 : Vec F S1x2 .f32) (x1 : Vec F S256x16 .f32) (x2 : Vec F S16x8192 .f32) (x3 : Vec F S1x8192 .f32) :
    (kernelRun1_A c i arg1 harg1 arg2 harg2 arg3 harg3 arg4 harg4 arg5 harg5 x0 x1 x2 x3).1
      = [⟨Rect.unit (s := S256x8192) ![0, 0] S256x8192.size inb_S256x8192_S256x8192_0_0,
          stored (k1_pay4 x2 x1 x3) (x0 (ix2 (0 : Fin 1) (0 : Fin 2))) (x0 (ix2 (0 : Fin 1) (1 : Fin 2)))⟩] := by
  have e2 : View.readAt (Elt F) arg2.view (Rect.unit (s := S256x16) ![0, 0] S256x16.size inb_S256x16_S256x16_0_0).toLoadRect (harg2.unread x1) = x1 := by
    rw [View.readAt_eq_ld, Memref.IsWhole.read_unread]; exact View.ld_unit_zero (S := S256x16) (by decide) _ _
  have e3 : View.readAt (Elt F) arg3.view (Rect.unit (s := S16x8192) ![0, 0] S16x8192.size inb_S16x8192_S16x8192_0_0).toLoadRect (harg3.unread x2) = x2 := by
    rw [View.readAt_eq_ld, Memref.IsWhole.read_unread]; exact View.ld_unit_zero (S := S16x8192) (by decide) _ _
  have e4 : View.readAt (Elt F) arg4.view (Rect.unit (s := S1x8192) ![0, 0] S1x8192.size inb_S1x8192_S1x8192_0_0).toLoadRect (harg4.unread x3) = x3 := by
    rw [View.readAt_eq_ld, Memref.IsWhole.read_unread]; exact View.ld_unit_zero (S := S1x8192) (by decide) _ _
  have e0 : kernelRun1_A.sl.r_46 c arg1 harg1 x0 = x0 (ix2 (0 : Fin 1) (0 : Fin 2)) := by
    unfold kernelRun1_A.sl.r_46
    rw [View.readAt_eq_ld, Memref.IsWhole.read_unread]
    exact congrArg x0 (by funext a; revert a; exact Fin.forall_fin_two.2 ⟨Fin.ext rfl, Fin.ext rfl⟩)
  have e1 : kernelRun1_A.sl.r_47 c arg1 harg1 x0 = x0 (ix2 (0 : Fin 1) (1 : Fin 2)) := by
    unfold kernelRun1_A.sl.r_47
    rw [View.readAt_eq_ld, Memref.IsWhole.read_unread]
    exact congrArg x0 (by funext a; revert a; exact Fin.forall_fin_two.2 ⟨Fin.ext rfl, Fin.ext rfl⟩)
  rw [piece1_raw, e2, e3, e4, e0, e1, raw_eq]

end Cert.KernelIdeal.Run

end
-- ==== Proof.Arrays.lean ====
/- The arrays that the two calls leave, from their blocks. -/
module

public import proofs.«01_k».proof.Proof.Fold
public import proofs.«01_k».proof.Proof.IdealRun
public import Idealize.ShloMosaic.Lib.Pipeline.ValueKit
public import Idealize.ShloMosaic.Lib.VecWindow

@[expose] public section

set_option maxRecDepth 16384

noncomputable section

namespace Cert.KernelIdeal.Arrays

open Cert.KernelIdeal.Gen Cert.KernelIdeal.Run
open Idealize.ShloMosaic Idealize.ShloMosaic.TcCoe Idealize.ShloMosaic.Tactic
open Idealize.ShloMosaic.Pipeline (Dat Cfg Window)

variable {F : FTy → Type} [FloatOps F] [Named F]
variable (V : (c : Dev nD) → (b : Ref sig .tc) → Buf (Elt F) ((c : Thread nD τ).loc b))

/-- The grid's points are 32. -/
theorem lt32 (t : Fin cfg1.N) : t.val < 32 := t.isLt

/-- Rows `256 t` to `256 t + 255` of a 8192-row array. -/
def rowsOf (A : FVec F S8192x16 .f32) (t : Fin 32) : FVec F S256x16 .f32 :=
  fun j => A (ix2 (⟨256 * t.val + (j 0).val, by have := (j 0).isLt; have h : (j 0).val < 256 := this; omega⟩ : Fin 8192) (j 1))

theorem idx1_0 : ∀ t : Fin cfg1.N, win1_0.index t = ![0, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![t.val, 0] := (by decide +kernel : ∀ t : Fin grid1.N, _)

theorem iblk1_0 (c : Dev nD) (t : Fin cfg1.N) : iblk1 V c 0 t = V c main_v8 := by
  funext y
  unfold iblk1
  blk_simp
  refine congrArg (V c main_v8) ?_
  blk_ext [idx1_0]

theorem iblk1_1 (c : Dev nD) (t : Fin cfg1.N) : iblk1 V c 1 t = rowsOf (V c main_v1_0) ⟨t.val, lt32 t⟩ := by
  funext y
  unfold iblk1 rowsOf
  blk_simp
  refine congrArg (V c main_v1_0) ?_
  blk_ext [idx1_1]

theorem iblk1_2 (c : Dev nD) (t : Fin cfg1.N) : iblk1 V c 2 t = V c main_v1_1 := by
  funext y
  unfold iblk1
  blk_simp
  refine congrArg (V c main_v1_1) ?_
  blk_ext [idx1_2]

theorem iblk1_3 (c : Dev nD) (t : Fin cfg1.N) : iblk1 V c 3 t = V c main_v1_2 := by
  funext y
  unfold iblk1
  blk_simp
  refine congrArg (V c main_v1_2) ?_
  blk_ext [idx1_3]

theorem outsAt1_eq (c : Dev nD) (t : Fin cfg1.N) :
    outsAt1 V c t = stored (k1_pay4 (V c main_v1_1) (rowsOf (V c main_v1_0) ⟨t.val, lt32 t⟩) (V c main_v1_2))
      (V c main_v8 (ix2 (0 : Fin 1) (0 : Fin 2))) (V c main_v8 (ix2 (0 : Fin 1) (1 : Fin 2))) := by
  unfold outsAt1 out1_A_4
  rw [piece1, iblk1_0, iblk1_1, iblk1_2, iblk1_3]
  exact View.read_writes_full VO1_4 _ _ _ _

/-- The affinities, one array: row `i` is row `i mod 256` of block `i / 256`. -/
def G9 (A0 : FVec F S1x2 .f32) (A1 : FVec F S8192x16 .f32) (A2 : FVec F S16x8192 .f32) (A3 : FVec F S1x8192 .f32) : FVec F S8192x8192 .f32 :=
  fun i => stored (k1_pay4 A2 (rowsOf A1 ⟨(i 0).val / 256, by have h : (i 0).val < 8192 := (i 0).isLt; omega⟩) A3)
    (A0 (ix2 (0 : Fin 1) (0 : Fin 2))) (A0 (ix2 (0 : Fin 1) (1 : Fin 2)))
    (ix2 (⟨(i 0).val % 256, Nat.mod_lt _ (by decide)⟩ : Fin 256) (i 1))

theorem arr9 (c : Dev nD) : (dat1 V c).arrAt 4 cfg1.N = G9 (V c main_v8) (V c main_v1_0) (V c main_v1_1) (V c main_v1_2) := by
  refine (dat1 V c).arrAt_eq_of_covers 4 _ (by decide +kernel) fun t hf y => ?_
  rw [after1_4, outsAt1_eq]
  blk_simp
  generalize hz : (win1_4.blk t).view.emb y = z
  have h0 : (z 0).val = 256 * t.val + (y 0).val := by rw [← hz]; blk_simp [idx1_4]; omega
  have h1 : (z 1).val = (y 1).val := by rw [← hz]; blk_simp [idx1_4]
  have hy : (y 0).val < 256 := (y 0).isLt
  have hq : (⟨(z 0).val / 256, by have h : (z 0).val < 8192 := (z 0).isLt; omega⟩ : Fin 32) = ⟨t.val, lt32 t⟩ := Fin.ext (by simp only []; omega)
  unfold G9
  rw [hq]
  refine congrArg _ ?_
  funext a
  revert a
  refine Fin.forall_fin_two.2 ⟨Fin.ext ?_, Fin.ext h1.symm⟩
  show (y 0).val = (z 0).val % 256
  omega

theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)

theorem iblk0_0 (c : Dev nD) (t : Fin cfg0.N) : iblk0 V c 0 t = V c main_v0 := by
  funext y
  unfold iblk0
  blk_simp
  refine congrArg (V c main_v0) ?_
  blk_ext [idx0_0]

/-- The scaled points. -/
theorem arr1_0 (c : Dev nD) : (dat0 V c).arrAt 1 cfg0.N = k0_pay1 (V c main_v0) := by
  refine (dat0 V c).arrAt_eq_of_covers 1 _ (by decide +kernel) fun t hf y => ?_
  rw [after0_1, iblk0_0]
  unfold out0_1 r0_0
  rw [View.canon_cons_unit_lit _ _ _ (by decide), View.ld_unit_lit _ _ (by decide)]
  blk_simp
  refine congrArg _ ?_
  blk_ext [idx0_1]

/-- Minus twice the scaled points, transposed. -/
theorem arr1_1 (c : Dev nD) : (dat0 V c).arrAt 2 cfg0.N = k0_pay3 (V c main_v0) := by
  refine (dat0 V c).arrAt_eq_of_covers 2 _ (by decide +kernel) fun t hf y => ?_
  rw [after0_2, iblk0_0]
  unfold out0_2 r0_1 r0_0
  rw [View.canon_cons_unit_lit _ _ _ (by decide), View.ld_unit_lit _ _ (by decide)]
  blk_simp
  refine congrArg _ ?_
  blk_ext [idx0_2]

/-- The squared lengths of the scaled points. -/
theorem arr1_2 (c : Dev nD) : (dat0 V c).arrAt 3 cfg0.N = k0_pay4 (V c main_v0) := by
  refine (dat0 V c).arrAt_eq_of_covers 3 _ (by decide +kernel) fun t hf y => ?_
  rw [after0_3, iblk0_0]
  unfold out0_3 r0_2 r0_0
  rw [View.canon_cons_unit_lit _ _ _ (by decide), View.ld_unit_lit _ _ (by decide)]
  blk_simp
  refine congrArg _ ?_
  blk_ext [idx0_3]

/-- The first host line: the points, without the leading axis. -/
theorem host0 (U : Valuation τ sig (Elt F)) : StableHlo.after hostOps0 U (Proc.devRef .tc main_v0)
    = (shapeCast S8192x16 (U (Proc.devRef .tc main_arg0) : FVec F S1x8192x16 .f32) shapeCasts_S1x8192x16_S8192x16 : FVec F S8192x16 .f32) := by
  unfold hostOps0
  after_results
  rfl

/-- The two constants of the second call. -/
def consts (T θ : FVec F S_ .f32) : FVec F S1x2 .f32 :=
  shapeCast S1x2 (concatenate S2 0 [⟨S1, (broadcastInDim S1 ![] bcast_S_S1 T : FVec F S1 .f32)⟩,
    ⟨S1, (broadcastInDim S1 ![] bcast_S_S1 (mulf (Host.negf T) (Host.absf θ) : FVec F S_ .f32) : FVec F S1 .f32)⟩] concatenates_S1_S1_S2_d0) shapeCasts_S2_S1x2

theorem host1 (U : Valuation τ sig (Elt F)) : StableHlo.after hostOps1 U (Proc.devRef .tc main_v8)
    = consts (U (Proc.devRef .tc main_arg2)) (U (Proc.devRef .tc main_arg3)) := by
  unfold hostOps1 consts
  after_results
  rfl

theorem host2 (U : Valuation τ sig (Elt F)) : StableHlo.after hostOps2 U (Proc.devRef .tc main_v10)
    = (shapeCast S1x8192x8192 (U (Proc.devRef .tc main_v9) : FVec F S8192x8192 .f32) shapeCasts_S8192x8192_S1x8192x8192 : FVec F S1x8192x8192 .f32) := by
  unfold hostOps2
  after_results
  rfl

/-- The kernel's result as a function of its arguments. -/
def result (x : FVec F S1x8192x16 .f32) (T θ : FVec F S_ .f32) : FVec F S1x8192x8192 .f32 :=
  shapeCast S1x8192x8192 (G9 (consts T θ) (k0_pay1 (shapeCast S8192x16 x shapeCasts_S1x8192x16_S8192x16))
    (k0_pay3 (shapeCast S8192x16 x shapeCasts_S1x8192x16_S8192x16)) (k0_pay4 (shapeCast S8192x16 x shapeCasts_S1x8192x16_S8192x16)))
    shapeCasts_S8192x8192_S1x8192x8192

variable (m : (ℓ : Loc nD τ sig) → Buf (Elt F) ℓ) (ρ : Dev nD → PrngReg)

theorem W1_v0 (c : Dev nD) : W1 m ρ c (Proc.devRef .tc main_v0)
    = (shapeCast S8192x16 (m ((c : Thread nD τ).loc main_arg0) : FVec F S1x8192x16 .f32) shapeCasts_S1x8192x16_S8192x16 : FVec F S8192x16 .f32) := by
  rw [← W0_args m ρ c main_arg0 (by decide)]
  exact host0 (W0 m ρ c)

theorem W3_v8 (c : Dev nD) : W3 m ρ c (Proc.devRef .tc main_v8)
    = consts (m ((c : Thread nD τ).loc main_arg2)) (m ((c : Thread nD τ).loc main_arg3)) := by
  rw [← W2_args m ρ c main_arg2 (by decide), ← W2_args m ρ c main_arg3 (by decide)]
  exact host1 (W2 m ρ c)

theorem W3_v1_0 (c : Dev nD) : W3 m ρ c (Proc.devRef .tc main_v1_0) = k0_pay1 (W1 m ρ c (Proc.devRef .tc main_v0)) :=
  (W3_of m ρ c main_v1_0 (by decide)).trans ((W2_arr m ρ c 1).trans (arr1_0 (V1 m ρ) c))
theorem W3_v1_1 (c : Dev nD) : W3 m ρ c (Proc.devRef .tc main_v1_1) = k0_pay3 (W1 m ρ c (Proc.devRef .tc main_v0)) :=
  (W3_of m ρ c main_v1_1 (by decide)).trans ((W2_arr m ρ c 2).trans (arr1_1 (V1 m ρ) c))
theorem W3_v1_2 (c : Dev nD) : W3 m ρ c (Proc.devRef .tc main_v1_2) = k0_pay4 (W1 m ρ c (Proc.devRef .tc main_v0)) :=
  (W3_of m ρ c main_v1_2 (by decide)).trans ((W2_arr m ρ c 3).trans (arr1_2 (V1 m ρ) c))

theorem W4_v9 (c : Dev nD) : W4 m ρ c (Proc.devRef .tc main_v9)
    = G9 (W3 m ρ c (Proc.devRef .tc main_v8)) (W3 m ρ c (Proc.devRef .tc main_v1_0)) (W3 m ρ c (Proc.devRef .tc main_v1_1)) (W3 m ρ c (Proc.devRef .tc main_v1_2)) :=
  (W4_arr m ρ c 4).trans (arr9 (V3 m ρ) c)

/-- What the kernel leaves in its result. -/
theorem W5_v10 (c : Dev nD) : W5 m ρ c (Proc.devRef .tc main_v10)
    = result (m ((c : Thread nD τ).loc main_arg0)) (m ((c : Thread nD τ).loc main_arg2)) (m ((c : Thread nD τ).loc main_arg3)) := by
  refine (host2 (W4 m ρ c)).trans ?_
  rw [W4_v9, W3_v8, W3_v1_0, W3_v1_1, W3_v1_2, W1_v0]
  rfl

end Cert.KernelIdeal.Arrays

end
-- ==== Proof.Rank.lean ====
module

public import Idealize.ShloMosaic.PureOps.Ideal.Laws

/-!
The order mathematics of the certificate, over extended reals and free of any program.

`nth S j` is the `j`-th smallest (counting from zero, equal values once) element of a set of values.
Three facts are proved of it: repeatedly masking the values at or below the minimum computes it; it
is decided by the elements below any bound that lies above it; and on a row whose first `K + 1`
places in order are known it is the value at the `j`-th of them.
-/

@[expose] public section

noncomputable section

namespace Cert.Rank

/-- The `j`-th smallest value of a set, equal values counted once: the infimum of the elements above
the `(j - 1)`-st. -/
def nth (S : Set EReal) : ℕ → EReal
  | 0 => sInf S
  | j + 1 => sInf {v | v ∈ S ∧ nth S j < v}

/-- The values do not decrease with the rank. -/
theorem nth_le_succ (S : Set EReal) (j : ℕ) : nth S j ≤ nth S (j + 1) :=
  le_sInf fun _ hv => hv.2.le

/-- Two sets with the same elements below `b` have the same infimum, if it lies below `b`. -/
theorem sInf_agree {S T : Set EReal} {b : EReal} (h : ∀ v, v < b → (v ∈ S ↔ v ∈ T))
    (hb : sInf S < b) : sInf T = sInf S := by
  apply le_antisymm
  · obtain ⟨s₀, hs₀, hs₀b⟩ := sInf_lt_iff.1 hb
    refine le_sInf fun s hs => ?_
    rcases lt_or_ge s b with hsb | hsb
    · exact sInf_le ((h s hsb).1 hs)
    · exact (sInf_le ((h s₀ hs₀b).1 hs₀)).trans (hs₀b.le.trans hsb)
  · refine le_sInf fun t ht => ?_
    rcases lt_or_ge t b with htb | htb
    · exact sInf_le ((h t htb).2 ht)
    · exact hb.le.trans htb

/-- Two sets with the same elements below `b` have the same `n`-th value, if it lies below `b`. -/
theorem nth_agree {S T : Set EReal} {b : EReal} (h : ∀ v, v < b → (v ∈ S ↔ v ∈ T)) :
    ∀ n : ℕ, nth S n < b → nth T n = nth S n
  | 0, hb => sInf_agree h hb
  | n + 1, hb => by
    have ih := nth_agree h n ((nth_le_succ S n).trans_lt hb)
    refine sInf_agree (fun v hv => ?_) hb
    simp only [Set.mem_setOf_eq, ih, h v hv]

variable {ι : Type*}

/-- A row with its minimum masked by `⊤`, `j` times over. -/
def rest (w : ι → EReal) : ℕ → ι → EReal
  | 0 => w
  | j + 1 => fun i => if rest w j i ≤ ⨅ k, rest w j k then ⊤ else rest w j i

/-- The minimum of a row with everything at or below `m` masked is the least value above `m`. -/
theorem iInf_mask (w : ι → EReal) (m : EReal) :
    (⨅ i, if w i ≤ m then (⊤ : EReal) else w i) = sInf {v | v ∈ Set.range w ∧ m < v} := by
  apply le_antisymm
  · refine le_sInf ?_
    rintro v ⟨⟨i, rfl⟩, hv⟩
    refine (iInf_le _ i).trans ?_
    rw [if_neg hv.not_ge]
  · refine le_iInf fun i => ?_
    split_ifs with h
    · exact le_top
    · exact sInf_le ⟨⟨i, rfl⟩, not_le.1 h⟩

/-- What the `j + 1`-st masking leaves: the values above the `j`-th smallest. -/
theorem rest_succ (w : ι → EReal) : ∀ (j : ℕ) (i : ι),
    rest w (j + 1) i = if w i ≤ nth (Set.range w) j then ⊤ else w i
  | 0, i => rfl
  | j + 1, i => by
    have hf : (rest w (j + 1)) = fun i => if w i ≤ nth (Set.range w) j then ⊤ else w i :=
      funext (rest_succ w j)
    have hm : (⨅ k, rest w (j + 1) k) = nth (Set.range w) (j + 1) := by
      rw [hf]
      exact iInf_mask w _
    change (if rest w (j + 1) i ≤ ⨅ k, rest w (j + 1) k then ⊤ else rest w (j + 1) i) = _
    rw [hm, rest_succ w j i]
    have hle := nth_le_succ (Set.range w) j
    by_cases h : w i ≤ nth (Set.range w) j
    · rw [if_pos h, if_pos (h.trans hle), ite_self]
    · rw [if_neg h]

/-- The minimum after `j` maskings is the `j`-th smallest value of the row. -/
theorem iInf_rest (w : ι → EReal) : ∀ j : ℕ, (⨅ i, rest w j i) = nth (Set.range w) j
  | 0 => rfl
  | j + 1 => by
    rw [funext (rest_succ w j)]
    exact iInf_mask w _

/-- If every candidate is a value of the row or `⊤`, and every value of the row is a candidate or at
least `b`, then a `n`-th smallest candidate below `b` is the `n`-th smallest value of the row. -/
theorem nth_candidates {κ : Type*} (w : ι → EReal) (c : κ → EReal) (b : EReal)
    (hc : ∀ k, c k = ⊤ ∨ ∃ i, c k = w i) (hw : ∀ i, (∃ k, c k = w i) ∨ b ≤ w i)
    (n : ℕ) (hb : nth (Set.range c) n < b) : nth (Set.range w) n = nth (Set.range c) n := by
  refine nth_agree (fun v hv => ⟨?_, ?_⟩) n hb
  · rintro ⟨k, rfl⟩
    rcases hc k with h | ⟨i, h⟩
    · exact absurd (h ▸ hv) not_top_lt
    · exact ⟨i, h.symm⟩
  · rintro ⟨i, rfl⟩
    rcases hw i with ⟨k, h⟩ | h
    · exact ⟨k, h⟩
    · exact absurd hv h.not_gt

/-- `idx 0, …, idx K` are the first places of the row `w` in increasing order, without ties: the
values there increase, and every other value exceeds the last of them. -/
structure Sorted (w : ι → EReal) (idx : ℕ → ι) (K : ℕ) : Prop where
  incr : ∀ i, i < K → w (idx i) < w (idx (i + 1))
  others : ∀ i, (∃ k, k ≤ K ∧ i = idx k) ∨ w (idx K) < w i

/-- The values at the first places increase with the rank. -/
theorem Sorted.mono {w : ι → EReal} {idx : ℕ → ι} {K : ℕ} (h : Sorted w idx K) :
    ∀ {j i : ℕ}, i ≤ j → j ≤ K → w (idx i) ≤ w (idx j)
  | 0, i, hij, _ => by rw [Nat.le_zero.1 hij]
  | j + 1, i, hij, hj => by
    rcases Nat.lt_or_eq_of_le hij with hlt | rfl
    · exact (h.mono (Nat.lt_succ_iff.1 hlt) (by omega)).trans (h.incr j (by omega)).le
    · exact le_rfl

/-- A value at or below the last of the first places is at one of them. -/
theorem Sorted.le_iff {w : ι → EReal} {idx : ℕ → ι} {K : ℕ} (h : Sorted w idx K) (i : ι) :
    w i ≤ w (idx K) ↔ ∃ k, k ≤ K ∧ i = idx k := by
  constructor
  · intro hi
    exact (h.others i).resolve_right hi.not_gt
  · rintro ⟨k, hk, rfl⟩
    exact h.mono hk le_rfl

/-- A value above the `j`-th of the first places is at least the next one. -/
theorem Sorted.next_le {w : ι → EReal} {idx : ℕ → ι} {K : ℕ} (h : Sorted w idx K) {j : ℕ}
    (hj : j < K) {i : ι} (hi : w (idx j) < w i) : w (idx (j + 1)) ≤ w i := by
  rcases h.others i with ⟨k, hk, rfl⟩ | ho
  · refine h.mono ?_ hk
    by_contra hjk
    exact absurd hi (h.mono (by omega) hj.le).not_gt
  · exact (h.mono hj le_rfl).trans ho.le

/-- On such a row the `j`-th smallest value is the one at the `j`-th place. -/
theorem Sorted.nth_eq {w : ι → EReal} {idx : ℕ → ι} {K : ℕ} (h : Sorted w idx K) :
    ∀ j : ℕ, j ≤ K → nth (Set.range w) j = w (idx j)
  | 0, _ => by
    refine le_antisymm (sInf_le (Set.mem_range_self _)) (le_sInf ?_)
    rintro _ ⟨i, rfl⟩
    rcases h.others i with ⟨k, hk, rfl⟩ | ho
    · exact h.mono (Nat.zero_le k) hk
    · exact (h.mono (Nat.zero_le K) le_rfl).trans ho.le
  | j + 1, hj => by
    change sInf {v | v ∈ Set.range w ∧ nth (Set.range w) j < v} = _
    rw [h.nth_eq j (by omega)]
    refine le_antisymm (sInf_le ⟨Set.mem_range_self _, h.incr j (by omega)⟩) (le_sInf ?_)
    rintro _ ⟨⟨i, rfl⟩, hi⟩
    exact h.next_le (by omega) hi

/-- Being at or below the `K`-th smallest value is being at one of the first places. -/
theorem Sorted.le_nth_iff {w : ι → EReal} {idx : ℕ → ι} {K : ℕ} (h : Sorted w idx K) (i : ι) :
    w i ≤ nth (Set.range w) K ↔ ∃ k, k ≤ K ∧ i = idx k := by
  rw [h.nth_eq K le_rfl, h.le_iff]

/-! ## The three smallest of a lane -/

/-- What a lane keeps: its three smallest values so far, and the least value ever pushed out. -/
structure Lane where
  a0 : EReal
  a1 : EReal
  a2 : EReal
  a3 : EReal

/-- One value enters a lane: it displaces upwards through the three kept values, and what is pushed
out of the last lowers the fourth. -/
def Lane.push (s : Lane) (v : EReal) : Lane where
  a0 := min s.a0 v
  a1 := min s.a1 (max s.a0 v)
  a2 := min s.a2 (max s.a1 (max s.a0 v))
  a3 := min s.a3 (max s.a2 (max s.a1 (max s.a0 v)))

/-- A lane after the first `n` of its values. -/
def Lane.run (v : ℕ → EReal) : ℕ → Lane
  | 0 => ⟨⊤, ⊤, ⊤, ⊤⟩
  | n + 1 => (Lane.run v n).push (v n)

/-- One of the three kept values. -/
def Lane.Has (s : Lane) (x : EReal) : Prop := x = s.a0 ∨ x = s.a1 ∨ x = s.a2

/-- What is kept after a push was kept before or is the new value. -/
theorem Lane.has_of_push (s : Lane) (v x : EReal) (h : (s.push v).Has x) : s.Has x ∨ x = v := by
  have pickMin : ∀ a b x : EReal, x = min a b → x = a ∨ x = b := fun a b x h =>
    (min_choice a b).imp h.trans h.trans
  have pickMax : ∀ a b x : EReal, x = max a b → x = a ∨ x = b := fun a b x h =>
    (max_choice a b).imp h.trans h.trans
  unfold Lane.Has Lane.push at *
  rcases h with h | h | h
  · rcases pickMin _ _ _ h with h | h
    · exact .inl (.inl h)
    · exact .inr h
  · rcases pickMin _ _ _ h with h | h
    · exact .inl (.inr (.inl h))
    rcases pickMax _ _ _ h with h | h
    · exact .inl (.inl h)
    · exact .inr h
  · rcases pickMin _ _ _ h with h | h
    · exact .inl (.inr (.inr h))
    rcases pickMax _ _ _ h with h | h
    · exact .inl (.inr (.inl h))
    rcases pickMax _ _ _ h with h | h
    · exact .inl (.inl h)
    · exact .inr h

/-- What was kept, and the new value, are kept after a push or are at least the fourth value. -/
theorem Lane.push_has (s : Lane) (v x : EReal) (h : s.Has x ∨ x = v) :
    (s.push v).Has x ∨ (s.push v).a3 ≤ x := by
  have two : ∀ a b x : EReal, x = a ∨ x = b → x = min a b ∨ x = max a b := by
    rintro a b x h
    rcases le_total a b with hab | hab
    · rw [min_eq_left hab, max_eq_right hab]
      exact h
    · rw [min_eq_right hab, max_eq_left hab]
      exact h.symm
  unfold Lane.Has at *
  have h0 : (x = min s.a0 v ∨ x = max s.a0 v) ∨ x = s.a1 ∨ x = s.a2 := by
    rcases h with (h | h | h) | h
    · exact .inl (two _ _ _ (.inl h))
    · exact .inr (.inl h)
    · exact .inr (.inr h)
    · exact .inl (two _ _ _ (.inr h))
  rcases h0 with (h0 | h0) | h0 | h0
  · exact .inl (.inl h0)
  · rcases two s.a1 _ x (.inr h0) with h1 | h1
    · exact .inl (.inr (.inl h1))
    · rcases two s.a2 _ x (.inr h1) with h2 | h2
      · exact .inl (.inr (.inr h2))
      · exact .inr (h2 ▸ min_le_right _ _)
  · rcases two s.a1 (max s.a0 v) x (.inl h0) with h1 | h1
    · exact .inl (.inr (.inl h1))
    · rcases two s.a2 _ x (.inr h1) with h2 | h2
      · exact .inl (.inr (.inr h2))
      · exact .inr (h2 ▸ min_le_right _ _)
  · rcases two s.a2 (max s.a1 (max s.a0 v)) x (.inl h0) with h2 | h2
    · exact .inl (.inr (.inr h2))
    · exact .inr (h2 ▸ min_le_right _ _)

/-- Every value a lane keeps is `⊤` or one of the values that entered. -/
theorem Lane.run_has (v : ℕ → EReal) : ∀ (n : ℕ) (x : EReal),
    (Lane.run v n).Has x → x = ⊤ ∨ ∃ t, t < n ∧ x = v t
  | 0, x, h => .inl (by rcases h with h | h | h <;> exact h)
  | n + 1, x, h => by
    rcases Lane.has_of_push _ _ _ h with h | h
    · rcases Lane.run_has v n x h with h | ⟨t, ht, h⟩
      · exact .inl h
      · exact .inr ⟨t, by omega, h⟩
    · exact .inr ⟨n, by omega, h⟩

/-- Every value that entered a lane is kept or is at least the lane's fourth value. -/
theorem Lane.has_run (v : ℕ → EReal) : ∀ (n t : ℕ), t < n →
    (Lane.run v n).Has (v t) ∨ (Lane.run v n).a3 ≤ v t
  | 0, _, ht => absurd ht (Nat.not_lt_zero _)
  | n + 1, t, ht => by
    rcases Nat.lt_succ_iff_lt_or_eq.1 ht with h | rfl
    · rcases Lane.has_run v n t h with h | h
      · exact Lane.push_has _ _ _ (.inl h)
      · exact .inr ((min_le_left _ _).trans h)
    · exact Lane.push_has _ _ _ (.inr rfl)

end Cert.Rank

end
-- ==== Proof.Rows.lean ====
/- The second call's selection read row by row over extended reals: its threshold is the tenth smallest distance of a row. -/
module

public import proofs.«01_k».proof.Proof.Fold
public import proofs.«01_k».proof.Proof.Rank
public import Idealize.ShloMosaic.Lib.IdealHost

@[expose] public section

set_option maxRecDepth 16384

noncomputable section

namespace Cert.KernelIdeal.Rows

open Cert.KernelIdeal.Gen Cert.KernelIdeal.Run
open Idealize.ShloMosaic Idealize.ShloMosaic.TcCoe Idealize.ShloMosaic.Tactic
open Cert.Rank (nth rest Lane)

theorem ofBits_top : (FloatOps.ofBits .f32 0x7F800000#32 : Ideal .f32) = (⊤ : EReal) := by
  show Ideal.ofBits .f32 0x7F800000#32 = ⊤
  simp [Ideal.ofBits, Ideal.ieee]

theorem ofBits_bot : (FloatOps.ofBits .f32 0xFF800000#32 : Ideal .f32) = (⊥ : EReal) := by
  show Ideal.ofBits .f32 0xFF800000#32 = ⊥
  simp [Ideal.ofBits, Ideal.ieee]

/-- A running minimum started at `⊤` is the infimum. -/
theorem fold_min {ι : Type*} [Fintype ι] (w : ι → EReal) : Finset.univ.fold min (⊤ : EReal) w = ⨅ i, w i :=
  Finset.inf_univ_eq_iInf w

/-- A running maximum started at `⊥` is the supremum. -/
theorem fold_max {ι : Type*} [Fintype ι] (w : ι → EReal) : Finset.univ.fold max (⊥ : EReal) w = ⨆ i, w i :=
  Finset.sup_univ_eq_iSup w

theorem minCol_apply (w : FVec Ideal S256x8192 .f32) (r : Fin 256) (z : Fin 1) :
    minCol w (ix2 r z) = ⨅ j : Fin 8192, (w (ix2 r j) : EReal) := by
  unfold minCol
  pointwise
  rw [show Ideal.ofBits .f32 2139095040#32 = (⊤ : EReal) from ofBits_top]
  exact fold_min _

theorem mask_apply (w : FVec Ideal S256x8192 .f32) (r : Fin 256) (j : Fin 8192) :
    mask w (ix2 r j) = if (w (ix2 r j) : EReal) ≤ ⨅ k : Fin 8192, (w (ix2 r k) : EReal) then (⊤ : EReal) else w (ix2 r j) := by
  unfold mask
  pointwise
  rw [show Ideal.ofBits .f32 2139095040#32 = (⊤ : EReal) from ofBits_top, minCol_apply]

theorem masks_apply (w : FVec Ideal S256x8192 .f32) (r : Fin 256) : ∀ (n : ℕ) (j : Fin 8192),
    masks w n (ix2 r j) = rest (fun k : Fin 8192 => (w (ix2 r k) : EReal)) n j
  | 0, _ => rfl
  | n + 1, j => by
    show mask (masks w n) (ix2 r j) = _
    rw [mask_apply]
    simp only [masks_apply w r n]
    rfl

/-- Nine maskings and a minimum: the tenth smallest entry of a row. -/
theorem tenth_apply (w : FVec Ideal S256x8192 .f32) (r : Fin 256) (z : Fin 1) :
    tenth w (ix2 r z) = nth (Set.range fun k : Fin 8192 => (w (ix2 r k) : EReal)) 9 := by
  unfold tenth
  rw [minCol_apply]
  simp only [masks_apply w r 9]
  exact Cert.Rank.iInf_rest _ 9

theorem minCol384_apply (w : FVec Ideal S256x384 .f32) (r : Fin 256) (z : Fin 1) :
    minCol384 w (ix2 r z) = ⨅ j : Fin 384, (w (ix2 r j) : EReal) := by
  unfold minCol384
  pointwise
  rw [show Ideal.ofBits .f32 2139095040#32 = (⊤ : EReal) from ofBits_top]
  exact fold_min _

theorem mask384_apply (w : FVec Ideal S256x384 .f32) (r : Fin 256) (j : Fin 384) :
    mask384 w (ix2 r j) = if (w (ix2 r j) : EReal) ≤ ⨅ k : Fin 384, (w (ix2 r k) : EReal) then (⊤ : EReal) else w (ix2 r j) := by
  unfold mask384
  pointwise
  rw [show Ideal.ofBits .f32 2139095040#32 = (⊤ : EReal) from ofBits_top, minCol384_apply]

theorem masks384_apply (w : FVec Ideal S256x384 .f32) (r : Fin 256) : ∀ (n : ℕ) (j : Fin 384),
    masks384 w n (ix2 r j) = rest (fun k : Fin 384 => (w (ix2 r k) : EReal)) n j
  | 0, _ => rfl
  | n + 1, j => by
    show mask384 (masks384 w n) (ix2 r j) = _
    rw [mask384_apply]
    simp only [masks384_apply w r n]
    rfl

/-- The same of the candidates. -/
theorem tenth384_apply (w : FVec Ideal S256x384 .f32) (r : Fin 256) (z : Fin 1) :
    tenth384 w (ix2 r z) = nth (Set.range fun k : Fin 384 => (w (ix2 r k) : EReal)) 9 := by
  unfold tenth384
  rw [minCol384_apply]
  simp only [masks384_apply w r 9]
  exact Cert.Rank.iInf_rest _ 9

/-- The values that pass a lane of a row, slice by slice. -/
def lane (d : FVec Ideal S256x8192 .f32) (r : Fin 256) (l : Fin 128) (t : ℕ) : EReal :=
  d (ix2 r ⟨128 * (t % 64) + l.val, by have := Nat.mod_lt t (show 0 < 64 by decide); omega⟩)

theorem slc_apply (d : FVec Ideal S256x8192 .f32) (t : ℕ) (r : Fin 256) (l : Fin 128) :
    slc d t (ix2 r l) = lane d r l t := by
  unfold slc lane
  pointwise

/-- The entry of a selection at a row and lane. -/
def laneOf (s : Lanes Ideal) (r : Fin 256) (l : Fin 128) : Lane where
  a0 := s.a0 (ix2 r l)
  a1 := s.a1 (ix2 r l)
  a2 := s.a2 (ix2 r l)
  a3 := s.a3 (ix2 r l)

theorem laneOf_step (v : FVec Ideal S256x128 .f32) (s : Lanes Ideal) (r : Fin 256) (l : Fin 128) :
    laneOf (step v s) r l = (laneOf s r l).push (v (ix2 r l)) := by
  unfold laneOf step Lane.push
  rfl

theorem laneOf_empty (r : Fin 256) (l : Fin 128) : laneOf empty r l = ⟨⊤, ⊤, ⊤, ⊤⟩ := by
  have h : (k1_pay5 (F := Ideal)) (ix2 r l) = (⊤ : EReal) := ofBits_top
  unfold laneOf empty
  simp only [h]

theorem laneOf_steps (d : FVec Ideal S256x8192 .f32) (r : Fin 256) (l : Fin 128) : ∀ n : ℕ,
    laneOf (steps d empty 0 n) r l = Lane.run (lane d r l) n
  | 0 => laneOf_empty r l
  | n + 1 => by
    show laneOf (step (slc d (0 + n)) (steps d empty 0 n)) r l = (Lane.run (lane d r l) n).push (lane d r l n)
    rw [laneOf_step, laneOf_steps d r l n, slc_apply, Nat.zero_add]

/-- The whole row's selection, lane by lane. -/
theorem laneOf_fold (d : FVec Ideal S256x8192 .f32) (r : Fin 256) (l : Fin 128) :
    laneOf (fold d) r l = Lane.run (lane d r l) 64 := laneOf_steps d r l 64

theorem cands_apply (s : Lanes Ideal) (r : Fin 256) (k : Fin 384) :
    cands s (ix2 r k) = (if h : k.val < 128 then s.a0 (ix2 r ⟨k.val, h⟩)
      else if h' : k.val - 128 < 128 then s.a1 (ix2 r ⟨k.val - 128, h'⟩)
      else s.a2 (ix2 r ⟨k.val - 128 - 128, by have := k.isLt; omega⟩)) := by
  unfold cands
  pointwise

/-- A candidate is one of the three values that some lane keeps. -/
theorem cands_has (s : Lanes Ideal) (r : Fin 256) (k : Fin 384) :
    ∃ l, (laneOf s r l).Has (cands s (ix2 r k)) := by
  rw [cands_apply]
  split
  · exact ⟨_, Or.inl rfl⟩
  · split
    · exact ⟨_, Or.inr (Or.inl rfl)⟩
    · exact ⟨_, Or.inr (Or.inr rfl)⟩

/-- And each kept value is a candidate. -/
theorem has_cands (s : Lanes Ideal) (r : Fin 256) (l : Fin 128) (x : EReal) (h : (laneOf s r l).Has x) :
    ∃ k, cands s (ix2 r k) = x := by
  have hl := l.isLt
  rcases h with h | h | h
  · refine ⟨⟨l.val, by omega⟩, ?_⟩
    rw [cands_apply, dif_pos hl, h]; rfl
  · refine ⟨⟨128 + l.val, by omega⟩, ?_⟩
    rw [cands_apply, dif_neg (by simp), dif_pos (by simp), h]
    exact congrArg (fun q => s.a1 (ix2 r q)) (Fin.ext (by simp))
  · refine ⟨⟨256 + l.val, by omega⟩, ?_⟩
    rw [cands_apply, dif_neg (by simp; omega), dif_neg (by simp; omega), h]
    exact congrArg (fun q => s.a2 (ix2 r q)) (Fin.ext (by simp; omega))

theorem spilt_apply (v : FVec Ideal S256x128 .f32) (k : FVec Ideal S256x1 .f32) :
    spilt v k = ⨆ x : Fin 256 × Fin 1, if (⨅ l : Fin 128, (v (ix2 x.1 l) : EReal)) ≤ k (ix2 x.1 0) then (1 : EReal) else 0 := by
  unfold spilt
  pointwise
  rw [show Ideal.ofBits .f32 2139095040#32 = (⊤ : EReal) from ofBits_top, show Ideal.ofBits .f32 4286578688#32 = (⊥ : EReal) from ofBits_bot]
  simp only [fold_min]
  exact fold_max _

theorem ogt_zero (x : Ideal .f32) (h : (0 : EReal) < x) :
    (Scalar.cmpf .ogt x (Scalar.ofBits .f32 0x00000000#32) : BitVec 1) = 1#1 := by
  show Ideal.cmp .ogt x (Ideal.ofBits .f32 0#32) = 1#1
  rw [Ideal.ofBits_zero_f32]
  unfold Ideal.cmp
  simp [h]

/-- Where the conditional's bit is set, no row's displaced values reach its tenth candidate. -/
theorem lt_of_clear (v : FVec Ideal S256x128 .f32) (k : FVec Ideal S256x1 .f32) (h : clear v k = 1#1) (r : Fin 256) :
    (k (ix2 r 0) : EReal) < ⨅ l : Fin 128, (v (ix2 r l) : EReal) := by
  by_contra hn
  have hle := not_lt.1 hn
  have h1 : (0 : EReal) < spilt v k := by
    rw [spilt_apply]
    exact lt_of_lt_of_le zero_lt_one (le_iSup_of_le (r, 0) (le_of_eq (if_pos hle).symm))
  unfold clear at h
  rw [show Scalar.cmpf .ogt (spilt v k) (Scalar.ofBits .f32 0x00000000#32) = 1#1 from ogt_zero _ h1] at h
  exact absurd h (by decide)

/-- The threshold of a row of distances is its tenth smallest value, whichever branch the conditional takes. -/
theorem tau_apply (d : FVec Ideal S256x8192 .f32) (r : Fin 256) :
    tau d (ix2 r 0) = nth (Set.range fun k : Fin 8192 => (d (ix2 r k) : EReal)) 9 := by
  unfold tau
  split
  · rename_i h
    have hlt := lt_of_clear _ _ h r
    rw [tenth384_apply] at hlt ⊢
    refine (Cert.Rank.nth_candidates _ _ _ (fun k => ?_) (fun i => ?_) 9 hlt).symm
    · obtain ⟨l, hl⟩ := cands_has (fold d) r k
      rw [laneOf_fold] at hl
      rcases Lane.run_has _ _ _ hl with h | ⟨t, -, h⟩
      · exact Or.inl h
      · exact Or.inr ⟨_, h⟩
    · have hi := i.isLt
      rcases Lane.has_run (lane d r ⟨i.val % 128, Nat.mod_lt _ (by decide)⟩) 64 (i.val / 128) (by omega) with h | h
      · left
        rw [← laneOf_fold] at h
        obtain ⟨k, hk⟩ := has_cands _ _ _ _ h
        exact ⟨k, hk.trans (congrArg (fun q => d (ix2 r q)) (Fin.ext (by simp only []; omega)))⟩
      · right
        rw [← laneOf_fold] at h
        refine (iInf_le _ (⟨i.val % 128, Nat.mod_lt _ (by decide)⟩ : Fin 128)).trans (h.trans (le_of_eq ?_))
        exact congrArg (fun q => d (ix2 r q)) (Fin.ext (by simp only []; omega))
  · exact tenth_apply d r 0

/-- What the body stores at a row and column: the affinity where the distance is among the ten smallest of its row, else zero. -/
theorem stored_apply (d : FVec Ideal S256x8192 .f32) (c1 c0 : Ideal .f32) (r : Fin 256) (j : Fin 8192) :
    stored d c1 c0 (ix2 r j) = if (d (ix2 r j) : EReal) ≤ nth (Set.range fun k : Fin 8192 => (d (ix2 r k) : EReal)) 9 then
      Ideal.div 1 (1 + FloatOps.exp2 (c1 * Named.named κ "log2e" 0x3FB8AA3B#32 * d (ix2 r j) + c0 * Named.named κ "log2e" 0x3FB8AA3B#32) : EReal)
      else (0 : EReal) := by
  unfold stored k1_pay407
  pointwise
  rw [tau_apply]

end Cert.KernelIdeal.Rows

end
-- ==== Proof.Scale.lean ====
/- The mathematics of one launch over extended reals: the points brought to scale are real numbers, whatever the input; both forms of the distance agree;
   and both forms of the affinity agree and fall as the distance grows. -/
module

public import Idealize.ShloMosaic.PureOps.Ideal.Laws
public import Idealize.ShloMosaic.Lib.IdealHost

@[expose] public section

noncomputable section

namespace Cert.Scale

open Idealize.ShloMosaic

variable {I K : Type} [Fintype I] [Fintype K]

/-- The mean of one coordinate: the sum over all points divided by `n`. -/
def cent (n : EReal) (x : I → K → EReal) (k : K) : EReal := Ideal.div (∑ i, x i k) n

/-- An absolute value in the form both programs use. -/
def ab (a : EReal) : EReal := max a (-a)

/-- The largest absolute deviation from the mean. -/
def top (n : EReal) (x : I → K → EReal) : EReal := ⨆ p : I × K, ab (x p.1 p.2 - cent n x p.2)

/-- A point moved to the mean and scaled by `e` over the largest deviation. -/
def xs (n e : EReal) (x : I → K → EReal) (i : I) (k : K) : EReal := (x i k - cent n x k) * Ideal.div e (top n x)

theorem ab_nonneg (a : EReal) : 0 ≤ ab a := by
  unfold ab
  rcases le_total 0 a with h | h
  · exact le_max_of_le_left h
  · exact le_max_of_le_right (by simpa using h)

/-- A number of finite absolute value is real. -/
theorem real_of_ab (a : EReal) (h : ab a ≠ ⊤) : ∃ r : ℝ, a = r := by
  unfold ab at h
  induction a using EReal.rec with
  | bot => simp at h
  | coe r => exact ⟨r, rfl⟩
  | top => simp at h

theorem eq_zero_of_ab (a : EReal) (h : ab a ≤ 0) : a = 0 := by
  unfold ab at h
  have h1 := le_trans (le_max_left _ _) h
  have h2 := le_trans (le_max_right _ _) h
  exact le_antisymm h1 (by simpa using h2)

/-- Whatever the input, the scaled points are real: an infinite deviation makes the scale zero, and no deviation makes every difference zero. -/
theorem xs_real (n : EReal) (e : ℝ) (x : I → K → EReal) : ∃ p : I → K → ℝ, ∀ i k, xs n e x i k = (p i k : EReal) := by
  suffices h : ∀ i k, ∃ r : ℝ, xs n e x i k = (r : EReal) by
    choose p hp using h
    exact ⟨p, hp⟩
  intro i k
  have hle : ab (x i k - cent n x k) ≤ top n x := le_iSup (fun p : I × K => ab (x p.1 p.2 - cent n x p.2)) (i, k)
  have h0 : 0 ≤ top n x := (ab_nonneg _).trans hle
  unfold xs
  by_cases ht : top n x = ⊤
  · refine ⟨0, ?_⟩
    rw [ht]
    simp [Ideal.div]
  by_cases hz : top n x = 0
  · refine ⟨0, ?_⟩
    rw [eq_zero_of_ab _ (hle.trans hz.le)]
    simp
  · obtain ⟨r, hr⟩ := real_of_ab (x i k - cent n x k) (fun h => ht (top_le_iff.mp (h ▸ hle)))
    have hb : top n x ≠ ⊥ := fun h => by rw [h] at h0; simp at h0
    rw [hr]
    generalize top n x = M at *
    lift M to ℝ using ⟨ht, hb⟩
    refine ⟨r * (e * M⁻¹), ?_⟩
    unfold Ideal.div
    rw [if_neg hz]
    push_cast
    rw [EReal.coe_inv]

/-- The square of the distance of two points. -/
def dist (p : I → K → ℝ) (i j : I) : ℝ := ∑ k, (p i k - p j k) ^ 2

theorem dist_nonneg (p : I → K → ℝ) (i j : I) : 0 ≤ dist p i j := Finset.sum_nonneg fun _ _ => sq_nonneg _

theorem coe_sum (f : K → ℝ) : ((∑ k, f k : ℝ) : EReal) = ∑ k, (f k : EReal) :=
  map_sum (⟨⟨((↑) : ℝ → EReal), EReal.coe_zero⟩, EReal.coe_add⟩ : ℝ →+ EReal) f Finset.univ

/-- The kernel's form: the factor −2 already at one operand. -/
theorem dist_kernel (p : I → K → ℝ) (i j : I) : ((∑ k, (p i k : EReal) * (p i k : EReal)) + ∑ k, (p j k : EReal) * (p j k : EReal))
    + ∑ k, (p i k : EReal) * (((-2 : ℝ) : EReal) * (p j k : EReal)) = (dist p i j : EReal) := by
  simp only [← EReal.coe_mul, ← coe_sum, ← EReal.coe_add]
  congr 1
  unfold dist
  rw [← Finset.sum_add_distrib, ← Finset.sum_add_distrib]
  exact Finset.sum_congr rfl fun k _ => by ring

/-- The reference's form: twice the scalar product taken off, and a bound below by zero. -/
theorem dist_reference (p : I → K → ℝ) (i j : I) : max (((∑ k, (p i k : EReal) * (p i k : EReal)) + ∑ k, (p j k : EReal) * (p j k : EReal))
    - ((2 : ℝ) : EReal) * ∑ k, (p i k : EReal) * (p j k : EReal)) 0 = (dist p i j : EReal) := by
  have h : ((∑ k, (p i k : EReal) * (p i k : EReal)) + ∑ k, (p j k : EReal) * (p j k : EReal))
      - ((2 : ℝ) : EReal) * ∑ k, (p i k : EReal) * (p j k : EReal) = (dist p i j : EReal) := by
    simp only [← EReal.coe_mul, ← coe_sum, ← EReal.coe_add, ← EReal.coe_sub]
    congr 1
    unfold dist
    rw [Finset.mul_sum, ← Finset.sum_add_distrib, ← Finset.sum_sub_distrib]
    exact Finset.sum_congr rfl fun k _ => by ring
  rw [h]
  exact max_eq_left (EReal.coe_nonneg.mpr (dist_nonneg p i j))

/-- The reference's affinity: the sigmoid of the temperature times the threshold's lead over the distance. -/
def aff (T θ d : EReal) : EReal := Ideal.div 1 (1 + Ideal.exp (-(T * (ab θ - d))))

/-- The same as a real number. -/
def sig (t θ d : ℝ) : ℝ := (1 + Real.exp (-(t * (|θ| - d))))⁻¹

theorem ab_coe (θ : ℝ) : ab (θ : EReal) = ((|θ| : ℝ) : EReal) := by
  unfold ab
  rw [← EReal.coe_neg, abs_eq_max_neg]
  exact (EReal.coe_strictMono.monotone.map_max).symm

theorem div_one (a : ℝ) (h : 0 < a) : Ideal.div 1 (1 + (a : EReal)) = (((1 + a)⁻¹ : ℝ) : EReal) := by
  have h1 : (1 : EReal) + (a : EReal) = ((1 + a : ℝ) : EReal) := by push_cast; rfl
  rw [h1]
  unfold Ideal.div
  rw [if_neg (by rw [EReal.coe_eq_zero]; positivity), one_mul, EReal.coe_inv]

theorem aff_coe (t θ d : ℝ) : aff t θ d = (sig t θ d : EReal) := by
  unfold aff sig
  rw [ab_coe, ← EReal.coe_sub, ← EReal.coe_mul, ← EReal.coe_neg]
  exact div_one _ (Real.exp_pos _)

/-- The kernel's form of the affinity: a power of two, the logarithm of two divided out of both constants. -/
theorem aff_kernel (t θ d : ℝ) : Ideal.div 1 (1 + Ideal.exp2 ((t : EReal) * (((Real.log 2)⁻¹ : ℝ) : EReal) * (d : EReal)
    + (-(t : EReal) * ab (θ : EReal)) * (((Real.log 2)⁻¹ : ℝ) : EReal))) = (sig t θ d : EReal) := by
  rw [ab_coe]
  have h : (t : EReal) * (((Real.log 2)⁻¹ : ℝ) : EReal) * (d : EReal)
    + (-(t : EReal) * ((|θ| : ℝ) : EReal)) * (((Real.log 2)⁻¹ : ℝ) : EReal) = ((t * (Real.log 2)⁻¹ * d + (-t * |θ|) * (Real.log 2)⁻¹ : ℝ) : EReal) := by
    push_cast; rfl
  rw [h]
  show Ideal.div 1 (1 + ((Real.rpow 2 (t * (Real.log 2)⁻¹ * d + (-t * |θ|) * (Real.log 2)⁻¹) : ℝ) : EReal)) = _
  refine (div_one (Real.rpow 2 _) (Real.rpow_pos_of_pos two_pos _)).trans ?_
  unfold sig
  congr 3
  show (2 : ℝ) ^ (_ : ℝ) = _
  rw [Real.rpow_def_of_pos two_pos]
  congr 1
  have : Real.log 2 ≠ 0 := (Real.log_pos one_lt_two).ne'
  field_simp
  ring

/-- At a positive temperature the affinity falls strictly as the distance grows. -/
theorem sig_lt {t θ d e : ℝ} (ht : 0 < t) : sig t θ e < sig t θ d ↔ d < e := by
  unfold sig
  rw [inv_lt_inv₀ (by positivity) (by positivity), add_lt_add_iff_left, Real.exp_lt_exp, neg_lt_neg_iff, mul_lt_mul_iff_right₀ ht]
  constructor <;> intro h <;> linarith

/-- An infinite threshold makes all affinities equal. -/
theorem aff_top_threshold (T θ : EReal) (d e : ℝ) (h : ab θ = ⊤) : aff T θ d = aff T θ e := by
  unfold aff
  rw [h, EReal.top_sub_coe, EReal.top_sub_coe]

/-- An infinite temperature leaves three affinities only. -/
theorem aff_top_temperature (θ d : ℝ) : aff ⊤ θ d = 0 ∨ aff ⊤ θ d = Ideal.div 1 (1 + 1) ∨ aff ⊤ θ d = 1 := by
  unfold aff
  rw [ab_coe, ← EReal.coe_sub]
  rcases lt_trichotomy (|θ| - d) 0 with h | h | h
  · left
    rw [EReal.top_mul_coe_of_neg h]
    show Ideal.div 1 (1 + Ideal.exp ⊤) = 0
    show Ideal.div 1 (1 + ⊤) = 0
    rw [show (1 : EReal) + ⊤ = ⊤ from EReal.coe_add_top 1]
    simp [Ideal.div]
  · right; left
    rw [h]
    simp only [EReal.coe_zero, mul_zero, neg_zero]
    show Ideal.div 1 (1 + ((Real.exp 0 : ℝ) : EReal)) = _
    rw [Real.exp_zero, EReal.coe_one]
  · right; right
    rw [EReal.top_mul_coe_of_pos h]
    show Ideal.div 1 (1 + 0) = 1
    rw [add_zero]
    simp [Ideal.div]

/-- Four affinities in strict order, at a positive temperature: then temperature and threshold are real. -/
theorem real_of_strict (T θ : EReal) (hT : 0 < T) (d : ℕ → ℝ) (h : ∀ i < 3, aff T θ (d (i + 1)) < aff T θ (d i)) :
    ∃ t s : ℝ, 0 < t ∧ T = t ∧ θ = s := by
  have hθ : ab θ ≠ ⊤ := fun e => absurd (h 0 (by omega)) (by rw [aff_top_threshold T θ (d 1) (d 0) e]; exact lt_irrefl _)
  obtain ⟨s, rfl⟩ := real_of_ab θ hθ
  have hTt : T ≠ ⊤ := by
    rintro rfl
    have h0 := h 0 (by omega)
    have h1 := h 1 (by omega)
    have h2 := h 2 (by omega)
    have hp : (0 : EReal) ≤ 1 := zero_le_one
    have hlo : ∀ i, 0 ≤ aff ⊤ s (d i) ∧ aff ⊤ s (d i) ≤ 1 := fun i => by
      have hh : Ideal.div 1 (1 + 1) = (((1 + 1)⁻¹ : ℝ) : EReal) := div_one 1 one_pos
      rcases aff_top_temperature s (d i) with e | e | e <;> rw [e]
      · exact ⟨le_rfl, hp⟩
      · rw [hh]
        exact ⟨EReal.coe_nonneg.mpr (by norm_num), by rw [← EReal.coe_one, EReal.coe_le_coe_iff]; norm_num⟩
      · exact ⟨hp, le_rfl⟩
    have e1 : aff ⊤ s (d 1) = Ideal.div 1 (1 + 1) := by
      rcases aff_top_temperature s (d 1) with e | e | e
      · exact absurd (e ▸ h1) (not_lt.mpr (hlo 2).1)
      · exact e
      · exact absurd (e ▸ h0) (not_lt.mpr (hlo 0).2)
    have e2 : aff ⊤ s (d 2) = Ideal.div 1 (1 + 1) := by
      rcases aff_top_temperature s (d 2) with e | e | e
      · exact absurd (e ▸ h2) (not_lt.mpr (hlo 3).1)
      · exact e
      · exact absurd (e ▸ h1) (not_lt.mpr (hlo 1).2)
    exact absurd h1 (by simp only [Nat.reduceAdd] at *; rw [e1, e2]; exact lt_irrefl _)
  have hTb : T ≠ ⊥ := fun e => by rw [e] at hT; simp at hT
  lift T to ℝ using ⟨hTt, hTb⟩
  exact ⟨T, s, EReal.coe_pos.mp hT, rfl, rfl⟩

end Cert.Scale

end
-- ==== Proof.KernelValue.lean ====
/- The kernel's result at an entry: the affinity where the distance is among the ten smallest of its row, zero elsewhere. -/
module

public import proofs.«01_k».proof.Proof.Arrays
public import proofs.«01_k».proof.Proof.Rows
public import proofs.«01_k».proof.Proof.Scale
public import Idealize.ShloMosaic.Lib.Pointwise

@[expose] public section

set_option maxRecDepth 16384

noncomputable section

namespace Cert.KernelIdeal.KernelValue

open Cert.KernelIdeal.Gen Cert.KernelIdeal.Run Cert.KernelIdeal.Arrays
open Idealize.ShloMosaic Idealize.ShloMosaic.TcCoe Idealize.ShloMosaic.Tactic
open Cert.Rank (nth)
open Cert.Scale (xs dist)

/-- The number of points, as both programs divide by it. -/
abbrev count : EReal := Ideal.ofBits .f32 0x46000000#32
/-- The scale's numerator. -/
abbrev extent : EReal := Ideal.ofBits .f32 0x3F666666#32

theorem extent_real : ∃ r : ℝ, extent = (r : EReal) := by
  simp only [extent, Ideal.ofBits, Ideal.ieee]
  norm_num
  exact ⟨_, (EReal.coe_mul _ _).symm⟩

theorem ofBits_minus_two : Ideal.ofBits .f32 0xC0000000#32 = ((-2 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

theorem scaled (v0 : FVec Ideal S8192x16 .f32) (i : Fin 8192) (k : Fin 16) :
    k0_pay1 (F := Ideal) v0 (ix2 i k) = xs count extent (fun i k => (v0 (ix2 i k) : EReal)) i k := by
  unfold k0_pay1
  pointwise
  rw [show Ideal.ofBits .f32 4286578688#32 = (⊥ : EReal) from Rows.ofBits_bot, Rows.fold_max]
  rfl

theorem doubled (v0 : FVec Ideal S8192x16 .f32) (i : Fin 8192) (k : Fin 16) :
    k0_pay3 (F := Ideal) v0 (ix2 k i) = ((-2 : ℝ) : EReal) * k0_pay1 (F := Ideal) v0 (ix2 i k) := by
  unfold k0_pay3 k0_pay2
  pointwise
  rw [ofBits_minus_two]

theorem squares (v0 : FVec Ideal S8192x16 .f32) (i : Fin 8192) (z : Fin 1) :
    k0_pay4 (F := Ideal) v0 (ix2 z i) = ∑ k : Fin 16, (k0_pay1 (F := Ideal) v0 (ix2 i k) * k0_pay1 (F := Ideal) v0 (ix2 i k) : EReal) := by
  unfold k0_pay4 k0_pay2
  pointwise

theorem distances (v0 : FVec Ideal S16x8192 .f32) (v2 : FVec Ideal S256x16 .f32) (v4 : FVec Ideal S1x8192 .f32) (r : Fin 256) (j : Fin 8192) :
    k1_pay4 (F := Ideal) v0 v2 v4 (ix2 r j) = ((∑ k : Fin 16, (v2 (ix2 r k) * v2 (ix2 r k) : EReal)) + v4 (ix2 0 j)
      + ∑ k : Fin 16, (v2 (ix2 r k) * v0 (ix2 k j) : EReal) : EReal) := by
  unfold k1_pay4
  pointwise

theorem consts_0 (T θ : FVec Ideal S_ .f32) : consts T θ (ix2 0 0) = T ix0 := by
  unfold consts
  pointwise

theorem consts_1 (T θ : FVec Ideal S_ .f32) : consts T θ (ix2 0 1) = (-T ix0 * Cert.Scale.ab (θ ix0) : EReal) := by
  unfold consts
  pointwise
  rfl

/-- The points as a matrix. -/
abbrev pts (x : FVec Ideal S1x8192x16 .f32) : Fin 8192 → Fin 16 → EReal := fun i k => x (ix3 0 i k)

theorem points (x : FVec Ideal S1x8192x16 .f32) (i : Fin 8192) (k : Fin 16) :
    k0_pay1 (F := Ideal) (shapeCast S8192x16 x shapeCasts_S1x8192x16_S8192x16) (ix2 i k) = xs count extent (pts x) i k := by
  rw [scaled]
  pointwise

/-- A row of distances, in any of the blocks of 256 rows. -/
theorem row (x : FVec Ideal S1x8192x16 .f32) (p : Fin 8192 → Fin 16 → ℝ) (hp : ∀ i k, xs count extent (pts x) i k = (p i k : EReal))
    (i j : Fin 8192) : k1_pay4 (F := Ideal) (k0_pay3 (F := Ideal) (shapeCast S8192x16 x shapeCasts_S1x8192x16_S8192x16))
        (rowsOf (F := Ideal) (k0_pay1 (shapeCast S8192x16 x shapeCasts_S1x8192x16_S8192x16)) ⟨i.1 / 256, by omega⟩)
        (k0_pay4 (F := Ideal) (shapeCast S8192x16 x shapeCasts_S1x8192x16_S8192x16)) (ix2 ⟨i.1 % 256, by omega⟩ j) = (dist p i j : EReal) := by
  have hq : ∀ (j : Fin 8192) (k : Fin 16), k0_pay1 (F := Ideal) (shapeCast S8192x16 x shapeCasts_S1x8192x16_S8192x16) (ix2 j k) = (p j k : EReal) :=
    fun j k => (points x j k).trans (hp j k)
  have hr : ∀ k : Fin 16, rowsOf (F := Ideal) (k0_pay1 (shapeCast S8192x16 x shapeCasts_S1x8192x16_S8192x16)) ⟨i.1 / 256, by omega⟩
      (ix2 ⟨i.1 % 256, by omega⟩ k) = (p i k : EReal) := fun k => by
    have hi : (⟨256 * (i.1 / 256) + i.1 % 256, by omega⟩ : Fin 8192) = i := Fin.ext (Nat.div_add_mod _ _)
    show k0_pay1 (F := Ideal) (shapeCast S8192x16 x shapeCasts_S1x8192x16_S8192x16) (ix2 ⟨256 * (i.1 / 256) + i.1 % 256, by omega⟩ k) = _
    rw [hi, hq]
  rw [distances, squares]
  simp only [hr, doubled, hq]
  exact Cert.Scale.dist_kernel p i j

/-- The kernel's result at real temperature and threshold. -/
theorem result_apply (x : FVec Ideal S1x8192x16 .f32) (T θ : FVec Ideal S_ .f32) (p : Fin 8192 → Fin 16 → ℝ)
    (hp : ∀ i k, xs count extent (pts x) i k = (p i k : EReal)) (t s : ℝ) (hT : T ix0 = (t : EReal)) (hθ : θ ix0 = (s : EReal))
    (z : Fin 1) (i j : Fin 8192) : result x T θ (ix3 z i j)
      = if (dist p i j : EReal) ≤ nth (Set.range fun k : Fin 8192 => (dist p i k : EReal)) 9 then (Cert.Scale.sig t s (dist p i j) : EReal) else (0 : EReal) := by
  unfold result G9
  pointwise
  rw [Rows.stored_apply, consts_0, consts_1, hT, hθ]
  simp only [row x p hp]
  congr 1
  exact Cert.Scale.aff_kernel t s _

end Cert.KernelIdeal.KernelValue

end
-- ==== Proof.ReferenceAffinity.lean ====
/- The reference's affinities at an entry: the same scaled points and the same distances as the kernel's. -/
module

public import proofs.«01_k».proof.Proof.ReferenceParts
public import proofs.«01_k».proof.Proof.KernelValue
public import Idealize.ShloMosaic.Lib.Pointwise

@[expose] public section

set_option maxRecDepth 16384

noncomputable section

namespace Cert.ReferenceIdeal.Affinity

open Cert.ReferenceIdeal Cert.ReferenceIdeal.Gen Cert.ReferenceIdeal.Parts
open Idealize.ShloMosaic Idealize.ShloMosaic.TcCoe Idealize.ShloMosaic.Tactic
open Cert.KernelIdeal.KernelValue (count extent pts ofBits_two)
open Cert.Scale (xs ab dist)

theorem foldl_max_le {ι : Type} (f : ι → EReal) (b : EReal) : ∀ (l : List ι) (a : EReal),
    l.foldl (fun r n => max r (f n)) a ≤ b ↔ a ≤ b ∧ ∀ n ∈ l, f n ≤ b
  | [], a => by simp
  | n :: l, a => by
    rw [List.foldl_cons, foldl_max_le f b l]
    simp only [max_le_iff, List.mem_cons, forall_eq_or_imp, and_assoc]

/-- A maximum over all axes, started at `⊥`, is the supremum. -/
theorem reduce_max {s t u : Shape} {axes : List (Fin s.rank)} [Subsingleton t.Idx] (x : FVec Ideal s .f32) (init : FVec Ideal u .f32)
    (h : s.ReducesTo axes t) (hu : 0 < u.numel) (j : t.Idx) (hi : ∀ k, (init k : EReal) = ⊥) :
    (Host.reduce (FloatOps.maximumf (F := Ideal) (φ := .f32)) x init h hu j : EReal) = ⨆ i : s.Idx, (x i : EReal) := by
  refine eq_of_forall_ge_iff fun b => ?_
  unfold Host.reduce
  refine (foldl_max_le (fun n => (x (s.rowMajor.symm n) : EReal)) b _ _).trans ?_
  rw [hi, iSup_le_iff]
  constructor
  · rintro ⟨-, h2⟩ i
    have := h2 (s.rowMajor i) (List.mem_filter.2 ⟨List.mem_finRange _, decide_eq_true (Subsingleton.elim _ _)⟩)
    rwa [Equiv.symm_apply_apply] at this
  · exact fun h2 => ⟨bot_le, fun n _ => h2 _⟩

theorem iSup_ix3 (w : S1x8192x16.Idx → EReal) : ⨆ i, w i = ⨆ p : Fin 8192 × Fin 16, w (ix3 0 p.1 p.2) := by
  apply le_antisymm
  · refine iSup_le fun i => ?_
    have h0 : i = ix3 0 (i 1) (i 2) := (eq_ix3 i).trans (congrArg (fun a : Fin 1 => ix3 a (i 1) (i 2)) (Subsingleton.elim (α := Fin 1) _ _))
    rw [h0]
    exact le_iSup (fun p : Fin 8192 × Fin 16 => w (ix3 0 p.1 p.2)) (i 1, i 2)
  · exact iSup_le fun p => le_iSup w _

/-- A deviation from the mean. -/
theorem deviation (x : FVec Ideal S1x8192x16 .f32) (i : Fin 8192) (k : Fin 16) :
    subf x (broadcastInDim S1x8192x16 ![0, 1, 2] bcast_S1x1x16_S1x8192x16_0_1_2 (cent x)) (ix3 0 i k)
      = (pts x i k - Cert.Scale.cent count (pts x) k : EReal) := by
  unfold cent Cert.Scale.cent
  pointwise

theorem largest (y : FVec Ideal S1x8192x16 .f32) :
    (Host.reduce (FloatOps.maximumf (F := Ideal) (φ := .f32)) (Host.absf y) (constant (F := Ideal) S_ .f32 0xFF800000#32) reducesTo_S1x8192x16_S_d0_1_2 h_S_ ix0 : EReal)
      = ⨆ p : Fin 8192 × Fin 16, ab (y (ix3 0 p.1 p.2)) := by
  haveI : Subsingleton S_.Idx := ⟨fun a b => funext fun q => q.elim0⟩
  refine (reduce_max (Host.absf y) (constant (F := Ideal) S_ .f32 0xFF800000#32) reducesTo_S1x8192x16_S_d0_1_2 h_S_ ix0
      (fun _ => Cert.KernelIdeal.Rows.ofBits_bot)).trans ?_
  rw [iSup_ix3]
  rfl

theorem scale_apply (y : FVec Ideal S1x8192x16 .f32) (R : FVec Ideal S_ .f32) (z : Fin 1) (i : Fin 8192) (k : Fin 16) :
    mulf y (broadcastInDim S1x8192x16 ![] bcast_S_S1x8192x16 (Host.divf (constant S_ .f32 0x3F666666#32) R)) (ix3 z i k)
      = (y (ix3 z i k) * Ideal.div extent (R ix0) : EReal) := by
  pointwise

theorem scaled_apply (x : FVec Ideal S1x8192x16 .f32) (z : Fin 1) (i : Fin 8192) (k : Fin 16) :
    scaled (F := Ideal) x (ix3 z i k) = xs count extent (pts x) i k := by
  have hz : z = 0 := Subsingleton.elim _ _
  subst hz
  unfold scaled xs Cert.Scale.top
  rw [scale_apply, largest, deviation]
  exact congrArg (fun M => (pts x i k - Cert.Scale.cent count (pts x) k) * Ideal.div extent M)
    (iSup_congr fun p => congrArg ab (deviation x p.1 p.2))

theorem dists_apply (x : FVec Ideal S1x8192x16 .f32) (p : Fin 8192 → Fin 16 → ℝ) (hp : ∀ i k, xs count extent (pts x) i k = (p i k : EReal))
    (z : Fin 1) (i j : Fin 8192) : dists (F := Ideal) (scaled x) (ix3 z i j) = (dist p i j : EReal) := by
  have hs : ∀ (z : Fin 1) (i : Fin 8192) (k : Fin 16), scaled (F := Ideal) x (ix3 z i k) = (p i k : EReal) :=
    fun z i k => (scaled_apply x z i k).trans (hp i k)
  generalize scaled (F := Ideal) x = y at *
  unfold dists
  pointwise
  simp only [hs]
  rw [ofBits_two]
  exact Cert.Scale.dist_reference p i j

theorem affinity_apply (x : FVec Ideal S1x8192x16 .f32) (T θ : FVec Ideal S_ .f32) (p : Fin 8192 → Fin 16 → ℝ)
    (hp : ∀ i k, xs count extent (pts x) i k = (p i k : EReal)) (z : Fin 1) (i j : Fin 8192) :
    affinity (F := Ideal) x T θ (ix3 z i j) = Cert.Scale.aff (T ix0) (θ ix0) (dist p i j) := by
  have hd := dists_apply x p hp
  unfold affinity
  generalize dists (F := Ideal) (scaled x) = d at *
  unfold aff
  pointwise
  rw [hd]
  rfl

end Cert.ReferenceIdeal.Affinity

end
-- ==== Proof.Mask.lean ====
/- The reference's mask at an entry: one where the column is among the chosen ones of its row, zero elsewhere. -/
module

public import proofs.«01_k».proof.Proof.ReferenceParts
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Mask

open Cert.ReferenceIdeal Cert.ReferenceIdeal.Gen Cert.ReferenceIdeal.Parts
open Idealize.ShloMosaic Idealize.ShloMosaic.TcCoe Idealize.ShloMosaic.Tactic

/-- The scatter's dimension numbers. -/
abbrev dims : ScatterDims S1x8192x8192 S1x8192x10x3 S1x8192x10 := scatter_S1x8192x8192_S1x8192x10x3_S1x8192x10_n_012_012_3

theorem mem_dims (q : Fin 3) : q ∈ dims.scatterDimsToOperandDims := by fin_cases q <;> decide

/-- The word an update reads for an axis. -/
theorem siIdx_eq (z : Fin 1) (i : Fin 8192) (k : Fin 10) (q : Fin 3) :
    dims.siIdx (ix3 z i k) ⟨dims.scatterDimsToOperandDims.idxOf q, List.idxOf_lt_length_iff.2 (mem_dims q)⟩ = ix4 z i k q := by
  funext b
  apply Fin.ext
  fin_cases b <;> fin_cases q <;> rfl

theorem window_eq (z : Fin 1) (i : Fin 8192) (k : Fin 10) (q : Fin 3) : dims.window (ix3 z i k) q = 0 := by
  fin_cases q <;> rfl

/-- Where an update lands. -/
theorem lands (C : IVec S1x8192x10x3 32) (z' z : Fin 1) (i' i j : Fin 8192) (k : Fin 10) : dims.resultIdx? (ix3 z' i' k) C = some (ix3 z i j)
    ↔ (C (ix4 z' i' k 0)).toInt = (z.val : ℤ) ∧ (C (ix4 z' i' k 1)).toInt = (i.val : ℤ) ∧ (C (ix4 z' i' k 2)).toInt = (j.val : ℤ) := by
  have hs : ∀ q : Fin 3, dims.start (ix3 z' i' k) C q + (dims.window (ix3 z' i' k) q : ℤ) = (C (ix4 z' i' k q)).toInt := fun q => by
    rw [window_eq]
    unfold ScatterDims.start
    rw [dif_pos (mem_dims q), siIdx_eq, Nat.cast_zero, add_zero]
  rw [Routing.resultIdx?_eq_some]
  constructor
  · intro h
    exact ⟨(hs 0).symm.trans (h 0), (hs 1).symm.trans (h 1), (hs 2).symm.trans (h 2)⟩
  · rintro ⟨h0, h1, h2⟩ a
    match a with
    | ⟨0, _⟩ => exact (hs 0).trans h0
    | ⟨1, _⟩ => exact (hs 1).trans h1
    | ⟨2, _⟩ => exact (hs 2).trans h2

/-- A word below 2³¹ read signed. -/
theorem toInt_of_lt (w : BitVec 32) (h : w.toNat < 8192) : w.toInt = (w.toNat : ℤ) := by
  rw [BitVec.toInt_eq_toNat_of_lt]
  omega

theorem mask_apply (K : IVec S1x8192x10 32) (hK : ∀ i k, (K (ix3 0 i k)).toNat < 8192) (z : Fin 1) (i j : Fin 8192) :
    mask (F := Ideal) K (ix3 z i j) = if ∃ k : Fin 10, (K (ix3 0 i k)).toNat = j.val then (1 : EReal) else (0 : EReal) := by
  unfold mask
  generalize h : concatenate _ _ _ _ = C
  have h0 : ∀ (z : Fin 1) (i : Fin 8192) (k : Fin 10), C (ix4 z i k 0) = 0#32 := by
    intro z i k
    rw [← h]
    pointwise
    rfl
  have h1 : ∀ (z : Fin 1) (i : Fin 8192) (k : Fin 10), C (ix4 z i k 1) = BitVec.ofNat 32 i.val := by
    intro z i k
    rw [← h]
    pointwise
    exact Routing.wrap_of_lt _ _ (by rw [BitVec.toNat_ofNat]; omega)
  have h2 : ∀ (z : Fin 1) (i : Fin 8192) (k : Fin 10), C (ix4 z i k 2) = K (ix3 0 i k) := by
    intro z i k
    rw [← h]
    pointwise
    exact Routing.wrap_of_lt _ _ (by have := hK i k; omega)
  clear h
  have hl : ∀ (z' z : Fin 1) (i' i j : Fin 8192) (k : Fin 10), dims.resultIdx? (ix3 z' i' k) C = some (ix3 z i j)
      ↔ i' = i ∧ (K (ix3 0 i' k)).toNat = j.val := fun z' z i' i j k => by
    have hi : (BitVec.ofNat 32 i'.val).toNat = i'.val := by rw [BitVec.toNat_ofNat]; omega
    rw [lands, h0, h1, h2, toInt_of_lt _ (hK i' k), toInt_of_lt (BitVec.ofNat 32 i'.val) (by omega), hi]
    have hz : (0#32 : BitVec 32).toInt = (z.val : ℤ) := by
      have : z = 0 := Subsingleton.elim _ _
      subst this
      rfl
    constructor
    · rintro ⟨-, a, b⟩
      exact ⟨Fin.ext (by exact_mod_cast a), by exact_mod_cast b⟩
    · rintro ⟨rfl, b⟩
      exact ⟨hz, rfl, by exact_mod_cast b⟩
  split
  · next hk =>
    obtain ⟨k, hk⟩ := hk
    refine (Routing.scatter_set_hit dims _ C _ (ix3 z i j) (1 : EReal) (fun u _ => ?_) (ix3 z i k) ((hl _ _ _ _ _ _).mpr ⟨rfl, hk⟩))
    exact Ideal.ofBits_one_f32
  · next hk =>
    refine (Routing.scatter_set_miss dims _ C _ (ix3 z i j) (fun u hu => hk ?_)).trans Ideal.ofBits_zero_f32
    rw [eq_ix3 u] at hu
    obtain ⟨e, hu⟩ := (hl _ _ _ _ _ _).mp hu
    exact ⟨u 2, e ▸ hu⟩

end Cert.ReferenceIdeal.Mask

end
-- ==== Proof.TopK.lean ====
/- The order in which the reference ranks a row's affinities, and what its precondition says of that order. -/
module

public import proofs.«01_k».proof.Proof.ReferenceParts
public import proofs.«01_k».proof.Proof.Rank
public import proofs.«01_k».proof.Proof.Scale
public import Idealize.ShloMosaic.Lib.Pointwise
public import Idealize.ShloMosaic.Lib.SortFacts

@[expose] public section

set_option maxRecDepth 16384

noncomputable section

namespace Cert.ReferenceIdeal.TopK

open Cert.ReferenceIdeal Cert.ReferenceIdeal.Gen Cert.ReferenceIdeal.Parts
open Idealize.ShloMosaic Idealize.ShloMosaic.TcCoe Idealize.ShloMosaic.Tactic
open Cert.Rank (nth Sorted)

/-- Greater, as a truth value. -/
def greater {n : ℕ} (w : Fin n → EReal) (k k' : Fin n) : Bool := decide (w k' < w k)

/-- The column at a place of the order, the greatest first. -/
def order {n : ℕ} (w : Fin n → EReal) : Fin n → Fin n := sortedFrom (greater w)

/-- The order of a row: no later place holds a greater value than an earlier one. -/
theorem order_le {n : ℕ} (w : Fin n → EReal) {i j : Fin n} (h : i ≤ j) : w (order w j) ≤ w (order w i) := by
  rcases h.eq_or_lt with rfl | h
  · exact le_rfl
  · have := sortedFrom_noInversion (greater w) (greater w)
      (fun a b hab => decide_eq_false (not_lt.mpr (of_decide_eq_true hab).le)) (fun _ _ hab => hab)
      (fun a b c hab hbc => decide_eq_false (not_lt.mpr ((not_lt.mp (of_decide_eq_false hab)).trans (not_lt.mp (of_decide_eq_false hbc))))) i j h
    exact not_lt.mp (of_decide_eq_false this)

theorem along_ix3 {a b n : ℕ} (z : Fin a) (i : Fin b) (j k : Fin n) (h : 2 < 3) :
    Shape.Idx.along (s := ⟨3, ![a, b, n]⟩) (ix3 z i j) (⟨2, h⟩ : Fin 3) k = ix3 z i k := by
  funext q
  fin_cases q <;> rfl

theorem total_eq (a b : EReal) : (FloatOps.cmpfTotal (F := Ideal) (φ := .f32) .gt a b == 1#1) = decide (b < a) := by
  rw [show FloatOps.cmpfTotal (F := Ideal) (φ := .f32) .gt a b = BitVec.ofBool (decide (b < a)) from rfl]
  cases decide (b < a) <;> rfl

/-- A sort of the last axis by the greatest first, with a second operand carried along. -/
theorem sort_apply {a b n : ℕ} (A : FVec Ideal ⟨3, ![a, b, n]⟩ .f32) (idx : IVec ⟨3, ![a, b, n]⟩ 32) (z : Fin a) (i : Fin b) (j : Fin n) :
    (Host.sort2 ⟨3, ![a, b, n]⟩ 2 (fun l r => FloatOps.cmpfTotal (F := Ideal) (φ := .f32) .gt l.1 r.1) A idx).1 (ix3 z i j)
      = A (ix3 z i (order (fun k => (A (ix3 z i k) : EReal)) j))
    ∧ (Host.sort2 ⟨3, ![a, b, n]⟩ 2 (fun l r => FloatOps.cmpfTotal (F := Ideal) (φ := .f32) .gt l.1 r.1) A idx).2 (ix3 z i j)
      = idx (ix3 z i (order (fun k => (A (ix3 z i k) : EReal)) j)) := by
  have h3 : 2 < 3 := by decide
  have hπ : sortedFrom (fun k k' : Fin n => FloatOps.cmpfTotal (F := Ideal) (φ := .f32) .gt
        (A (Shape.Idx.along (s := ⟨3, ![a, b, n]⟩) (ix3 z i j) (⟨2, h3⟩ : Fin 3) k))
        (A (Shape.Idx.along (s := ⟨3, ![a, b, n]⟩) (ix3 z i j) (⟨2, h3⟩ : Fin 3) k')) == 1#1) j
      = order (fun k => (A (ix3 z i k) : EReal)) j := by
    unfold order greater
    congr 1
    funext k k'
    rw [along_ix3, along_ix3]
    exact total_eq _ _
  unfold Host.sort2
  rw [dif_pos (show 2 < (⟨3, ![a, b, n]⟩ : Shape).rank from (by decide : 2 < 3))]
  constructor
  · refine Eq.trans ?_ (congrArg A (along_ix3 z i j _ (by decide)))
    rw [← hπ]
    rfl
  · refine Eq.trans ?_ (congrArg idx (along_ix3 z i j _ (by decide)))
    rw [← hπ]
    rfl

theorem best_apply (A : FVec Ideal S1x8192x8192 .f32) (i : Fin 8192) (k : Fin 10) :
    best (F := Ideal) A (ix3 0 i k) = BitVec.ofNat 32 (order (fun k => (A (ix3 0 i k) : EReal)) ⟨k.1, by omega⟩).val := by
  unfold best Host.topK
  simp only []
  pointwise
  exact (sort_apply A _ 0 i ⟨k.1, by omega⟩).2

theorem best11_apply (A : FVec Ideal S1x8192x8192 .f32) (i : Fin 8192) (k : Fin 11) :
    best11 (F := Ideal) A (ix3 0 i k) = A (ix3 0 i (order (fun k => (A (ix3 0 i k) : EReal)) ⟨k.1, by omega⟩)) := by
  unfold best11 Host.topK
  simp only []
  pointwise
  exact (sort_apply A _ 0 i ⟨k.1, by omega⟩).1

/-- The columns by place, as a sequence. -/
def place (w : Fin 8192 → EReal) (k : ℕ) : Fin 8192 := order w ⟨k % 8192, Nat.mod_lt _ (by decide)⟩

/-- Affinities that fall strictly over the first eleven places, and fall as the distance grows: then the distances increase over the first ten
    places, and every other distance is greater. -/
theorem sorted_of_strict (a w : Fin 8192 → EReal) (haw : ∀ i j, a j < a i ↔ w i < w j)
    (h : ∀ k < 10, a (place a (k + 1)) < a (place a k)) : Sorted w (place a) 9 where
  incr i hi := (haw _ _).mp (h i (by omega))
  others i := by
    obtain ⟨q, rfl⟩ := sortedFrom_surjective (greater a) i
    by_cases hq : q.1 ≤ 9
    · left
      refine ⟨q.1, hq, ?_⟩
      show order a q = order a _
      congr 1
      exact Fin.ext (Nat.mod_eq_of_lt q.2).symm
    · right
      refine (haw _ _).mp (lt_of_le_of_lt ?_ (h 9 (by omega)))
      exact order_le a (i := ⟨10 % 8192, by decide⟩) (j := q) (by rw [Fin.le_def]; show 10 % 8192 ≤ q.1; omega)

end Cert.ReferenceIdeal.TopK

end
-- ==== Proof.Value.lean ====
/- Kernel and reference return the same arrays wherever the temperature is positive and no two of a row's eleven largest affinities tie. -/
module

public import proofs.«01_k».proof.Defs
public import proofs.«01_k».proof.Proof.ReferenceAffinity
public import proofs.«01_k».proof.Proof.Mask
public import proofs.«01_k».proof.Proof.TopK

@[expose] public section

set_option maxRecDepth 16384

noncomputable section

namespace Cert.Value

open Idealize.ShloMosaic Idealize.ShloMosaic.TcCoe Idealize.ShloMosaic.Tactic Idealize.SL.Sem
open Cert.ReferenceIdeal (S1x8192x16 S1x8192x8192 S_)
open Cert.ReferenceIdeal.Parts Cert.ReferenceIdeal.TopK
open Cert.KernelIdeal.KernelValue (count extent pts)
open Cert.Rank (nth Sorted)
open Cert.Scale (xs dist)

theorem ofBool_one (b : Bool) (h : BitVec.ofBool b = 1#1) : b = true := by
  cases b
  · exact absurd h (by decide)
  · rfl

/-- The precondition read: a positive temperature, and eleven affinities in strict order in every row. -/
theorem pre_iff (x : FVec Ideal S1x8192x16 .f32) (A : FVec Ideal S1x8192x8192 .f32) (T θ : FVec Ideal S_ .f32)
    (h1 : (Cert.Pre_untied.fn (F := Ideal) x A T θ).1 = fun _ => 1#1) (h2 : (Cert.Pre_untied.fn (F := Ideal) x A T θ).2 = fun _ => 1#1) :
    (0 : EReal) < T ix0 ∧ ∀ (i : Fin 8192) (k : ℕ) (_ : k < 10),
      (affinity (F := Ideal) x T θ (ix3 0 i (place (fun k => (affinity (F := Ideal) x T θ (ix3 0 i k) : EReal)) (k + 1))) : EReal)
        < affinity (F := Ideal) x T θ (ix3 0 i (place (fun k => (affinity (F := Ideal) x T θ (ix3 0 i k) : EReal)) k)) := by
  rw [pre_eq] at h1 h2
  constructor
  · have h := congrFun h1 ix0
    have h' := of_decide_eq_true (ofBool_one _ h)
    exact lt_of_eq_of_lt Ideal.ofBits_zero_f32.symm h'
  · intro i k hk
    have h := congrFun h2 (ix3 0 i ⟨k, hk⟩)
    generalize affinity (F := Ideal) x T θ = a at *
    have e : ∀ (q : ℕ) (hq : q < 11), best11 (F := Ideal) a (ix3 0 i ⟨q, hq⟩) = a (ix3 0 i (place (fun k => (a (ix3 0 i k) : EReal)) q)) := fun q hq => by
      rw [best11_apply]
      unfold place
      congr 3
      exact Fin.ext (Nat.mod_eq_of_lt (by show q < 8192; omega)).symm
    have e0 := e k (by omega)
    have e1 := e (k + 1) (by omega)
    generalize best11 (F := Ideal) a = b at *
    have h' : BitVec.ofBool (decide ((b (ix3 0 i ⟨k + 1, by omega⟩) : EReal) < b (ix3 0 i ⟨k, by omega⟩))) = 1#1 := by
      refine Eq.trans ?_ h
      pointwise
      simp only [Nat.add_comm k 1]
    have := of_decide_eq_true (ofBool_one _ h')
    rwa [e0, e1] at this

/-- The two results agree. -/
theorem results_eq (x : FVec Ideal S1x8192x16 .f32) (T θ : FVec Ideal S_ .f32) (hT : (0 : EReal) < T ix0)
    (hs : ∀ (i : Fin 8192) (k : ℕ) (_ : k < 10),
      (affinity (F := Ideal) x T θ (ix3 0 i (place (fun k => (affinity (F := Ideal) x T θ (ix3 0 i k) : EReal)) (k + 1))) : EReal)
        < affinity (F := Ideal) x T θ (ix3 0 i (place (fun k => (affinity (F := Ideal) x T θ (ix3 0 i k) : EReal)) k))) :
    mulf (affinity (F := Ideal) x T θ) (mask (best (affinity x T θ))) = Cert.KernelIdeal.Arrays.result x T θ := by
  obtain ⟨e, he⟩ := Cert.KernelIdeal.KernelValue.extent_real
  obtain ⟨p, hp'⟩ := Cert.Scale.xs_real count e (pts x)
  have hp : ∀ i k, xs count extent (pts x) i k = (p i k : EReal) := fun i k => by rw [he]; exact hp' i k
  have ha := Cert.ReferenceIdeal.Affinity.affinity_apply x T θ p hp
  obtain ⟨t, s, ht, hTt, hθs⟩ := Cert.Scale.real_of_strict (T ix0) (θ ix0) hT
    (fun k => dist p 0 (place (fun k => (affinity (F := Ideal) x T θ (ix3 0 0 k) : EReal)) k))
    (fun k hk => by have := hs 0 k (by omega); rwa [ha, ha] at this)
  have hk := Cert.KernelIdeal.KernelValue.result_apply x T θ p hp t s hTt hθs
  have ha' : ∀ (z : Fin 1) (i j : Fin 8192), affinity (F := Ideal) x T θ (ix3 z i j) = (Cert.Scale.sig t s (dist p i j) : EReal) := fun z i j => by
    rw [ha, hTt, hθs, Cert.Scale.aff_coe]
  clear ha
  generalize affinity (F := Ideal) x T θ = a at *
  funext q
  obtain ⟨z, i, j, rfl⟩ : ∃ (z : Fin 1) (i j : Fin 8192), q = ix3 z i j := ⟨q 0, q 1, q 2, eq_ix3 q⟩
  rw [hk]
  have hb : ∀ (i : Fin 8192) (k : Fin 10), (best (F := Ideal) a (ix3 0 i k)).toNat = (place (fun k => (a (ix3 0 i k) : EReal)) k.1).1 := fun i k => by
    rw [best_apply, BitVec.toNat_ofNat]
    have hkk : (⟨k.1, by omega⟩ : Fin 8192) = ⟨k.1 % 8192, Nat.mod_lt _ (by decide)⟩ := Fin.ext (Nat.mod_eq_of_lt (by omega)).symm
    rw [hkk]
    exact Nat.mod_eq_of_lt (lt_trans (Fin.isLt _) (by decide))
  have hm := Cert.ReferenceIdeal.Mask.mask_apply (best (F := Ideal) a) (fun i k => by rw [hb]; exact Fin.isLt _) z i j
  have hsort : Sorted (fun k : Fin 8192 => (dist p i k : EReal)) (place (fun k => (a (ix3 0 i k) : EReal))) 9 :=
    sorted_of_strict _ _ (fun k l => by rw [ha', ha', EReal.coe_lt_coe_iff, EReal.coe_lt_coe_iff]; exact Cert.Scale.sig_lt ht) (hs i)
  show (a (ix3 z i j) * mask (F := Ideal) (best (F := Ideal) a) (ix3 z i j) : EReal) = _
  rw [hm, ha']
  have hiff : (∃ k : Fin 10, (best (F := Ideal) a (ix3 0 i k)).toNat = j.val)
      ↔ (dist p i j : EReal) ≤ nth (Set.range fun k : Fin 8192 => (dist p i k : EReal)) 9 := by
    refine Iff.trans ?_ (hsort.le_nth_iff j).symm
    constructor
    · rintro ⟨k, hkj⟩
      rw [hb i k] at hkj
      exact ⟨k.1, Nat.le_of_lt_succ k.2, (Fin.ext hkj).symm⟩
    · rintro ⟨k, hk, hkj⟩
      exact ⟨⟨k, Nat.lt_succ_of_le hk⟩, (hb i ⟨k, Nat.lt_succ_of_le hk⟩).trans (congrArg Fin.val hkj.symm)⟩
  by_cases h : (dist p i j : EReal) ≤ nth (Set.range fun k : Fin 8192 => (dist p i k : EReal)) 9
  · rw [if_pos h, if_pos (hiff.mpr h), mul_one]
  · rw [if_neg h, if_neg (fun h' => h (hiff.mp h')), mul_zero]

theorem algebraic : Cert.algebraic_KernelIdeal_ReferenceIdeal_pre_untied (hKernelIdeal := Cert.KernelIdeal.Gen.facts)
    (hReferenceIdeal := Cert.ReferenceIdeal.Gen.facts) (hPre_untied := Cert.Pre.facts) := by
  intro m g m' g' hpre hargs
  refine ⟨fun c => m ((c.tc : Thread Cert.KernelIdeal.nD Cert.KernelIdeal.τ).loc Cert.KernelIdeal.main_arg0),
    fun c => Cert.KernelIdeal.Run.W5 m g c (Proc.devRef .tc Cert.KernelIdeal.main_v10), ?_, ?_⟩
  · exact (θ_run _ _ _).mono (fun r h c => ⟨(h c).2.1, h c⟩) (Cert.KernelIdeal.Run.run_result m g)
  · refine (θ_run _ _ _).mono (fun r h c => ⟨(h c).1.trans (hargs c).1, (h c).2.1.trans ?_, (h c).2.2⟩) (Cert.ReferenceIdeal.Value.run m' g')
    rw [Cert.ReferenceIdeal.Parts.result_eq, (hargs c).1, (hargs c).2.2.1, (hargs c).2.2.2]
    obtain ⟨hT, hs⟩ := pre_iff _ _ _ _ (hpre c).1 (hpre c).2
    exact (results_eq _ _ _ hT hs).trans (Cert.KernelIdeal.Arrays.W5_v10 m g c).symm

end Cert.Value

end
-- ==== Proof.lean ====
module

public import proofs.«01_k».proof.Defs
public import proofs.«01_k».proof.Proof.Facts
public import proofs.«01_k».proof.Proof.BitsRun
public import proofs.«01_k».proof.Proof.IdealRun
public import proofs.«01_k».proof.Proof.Value

@[expose] public section

noncomputable section

namespace Cert.Proof

open Idealize.ShloMosaic

theorem claim : Cert.Claim :=
  ⟨Cert.Kernel.Gen.facts, Cert.KernelIdeal.Gen.facts, Cert.ReferenceIdeal.Gen.facts, Cert.Pre.facts,
    fun m g _ => Cert.Kernel.Run.frame m g,
    fun m g _ => Cert.KernelIdeal.Run.frame m g,
    fun m g _ => Cert.KernelIdeal.Run.frame m g,
    fun m g _ => Cert.ReferenceIdeal.Run.frame m g,
    fun m g _ => Cert.ReferenceIdeal.Run.frame m g,
    IdealRules.named_const.statement Cert.KernelIdeal.κ "log2e" .f32 0x3FB8AA3B#32 (((Real.log 2)⁻¹ : ℝ) : EReal) rfl,
    Cert.Value.algebraic⟩

end Cert.Proof

end
